-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 16, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v43) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x1024 : Shape := ⟨2, ![512, 1024]⟩
abbrev S2x128x4x64 : Shape := ⟨4, ![2, 128, 4, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x1024 .f32) (main_arg2 : FVec F S2x128x4x64 .f32) (main_arg3 : FVec F S2x128x4x64 .f32) (main_arg4 : FVec F S1024x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S2x128x16x64 : S_.BroadcastsInDim S2x128x16x64 (![] : Fin 0 → Fin S2x128x16x64.rank)
  reducesTo_S2x128x16x64_S_d0_1_2_3 : S2x128x16x64.ReducesTo [0, 1, 2, 3] S_

variable [Facts]

def fn {F : FTy → Type} [FloatOps F] (main_arg0 : FVec F S2x128x512 .f32) (main_arg1 : FVec F S512x1024 .f32) (main_arg2 : FVec F S2x128x16x64 .f32) (main_arg3 : FVec F S2x128x16x64 .f32) (main_arg4 : FVec F S1024x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  let main_v9 : FVec F S2x128x16x64 .f32 := Host.absf main_arg2
  let main_cst_2 : FVec F S_ .f32 := constant S_ .f32 0x7F800000#32
  let main_v10 : FVec F S2x128x16x64 .f32 := broadcastInDim S2x128x16x64 ![] bcast_S_S2x128x16x64 main_cst_2
  let main_v11 : IVec S2x128x16x64 1 := cmpf .olt main_v9 main_v10
  let main_c_3 : IVec S_ 1 := constantI S_ 1 1#1
  let main_v12 : IVec S_ 1 := (fun x v => Host.reduce IntOp.andi x v reducesTo_S2x128x16x64_S_d0_1_2_3 h_S_) main_v11 main_c_3
  let main_v13 : IVec S_ 1 := andi main_v8 main_v12
  main_v13
-- ==== Kernel.lean ====
abbrev S2x128x512 : Shape := ⟨3, ![2, 128, 512]⟩
abbrev S512x1024 : Shape := ⟨2, ![512, 1024]⟩
abbrev S2x128x4x64 : Shape := ⟨4, ![2, 128, 4, 64]⟩
abbrev S1024x512 : Shape := ⟨2, ![1024, 512]⟩
abbrev S_ : Shape := ⟨0, ![]⟩
abbrev S512x256 : Shape := ⟨2, ![512, 256]⟩
abbrev S256x512 : Shape := ⟨2, ![256, 512]⟩
abbrev S256x256 : Shape := ⟨2, ![256, 256]⟩
abbrev S2x4x64x128 : Shape := ⟨4, ![2, 4, 64, 128]⟩
abbrev S2x8x64x128 : Shape := ⟨4, ![2, 8, 64, 128]⟩
abbrev S4x2x128x256 : Shape := ⟨4, ![4, 2, 128, 256]⟩
abbrev S3x2 : Shape := ⟨2, ![3, 2]⟩
abbrev S4x2 : Shape := ⟨2, ![4, 2]⟩
abbrev S128x64 : Shape := ⟨2, ![128, 64]⟩
abbrev S1x1x64x128 : Shape := ⟨4, ![1, 1, 64, 128]⟩
abbrev S64x128 : Shape := ⟨2, ![64, 128]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S1x1x128x64 : Shape := ⟨4, ![1, 1, 128, 64]⟩
abbrev S1x1 : Shape := ⟨2, ![1, 1]⟩
abbrev S1x1x128x256 : Shape := ⟨4, ![1, 1, 128, 256]⟩
abbrev S128x256 : Shape := ⟨2, ![128, 256]⟩
abbrev S1x2x128x256 : Shape := ⟨4, ![1, 2, 128, 256]⟩
abbrev S2x128x256 : Shape := ⟨3, ![2, 128, 256]⟩

abbrev nBuf : Space → Nat
  | .hbm => 32
  | .vmem => 5
  | .smem => 0
  | _ => 0

abbrev bufTy : (tb : Table) → Fin (tcTables nBuf tb) → BufTy
  | .hbm, ⟨0, _⟩ => ⟨S2x128x512, .f32⟩
  | .hbm, ⟨1, _⟩ => ⟨S512x1024, .f32⟩
  | .hbm, ⟨2, _⟩ => ⟨S2x128x4x64, .f32⟩
  | .hbm, ⟨3, _⟩ => ⟨S2x128x4x64, .f32⟩
  | .hbm, ⟨4, _⟩ => ⟨S1024x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S256x512, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .bf16⟩
  | .hbm, ⟨26, _⟩ => ⟨S2x4x64x128, .f32⟩
  | .hbm, ⟨27, _⟩ => ⟨S2x4x64x128, .bf16⟩
  | .hbm, ⟨28, _⟩ => ⟨S2x4x64x128, .f32⟩
  | .hbm, ⟨29, _⟩ => ⟨S2x4x64x128, .bf16⟩
  | .hbm, ⟨30, _⟩ => ⟨S2x8x64x128, .bf16⟩
  | .hbm, ⟨31, _⟩ => ⟨S2x128x512, .bf16⟩
  | .local _ .vmem, ⟨0, _⟩ => ⟨S256x256, .bf16⟩
  | .local _ .vmem, ⟨1, _⟩ => ⟨S2x8x64x128, .bf16⟩
  | .local _ .vmem, ⟨2, _⟩ => ⟨S1024x512, .f32⟩
  | .local _ .vmem, ⟨3, _⟩ => ⟨S2x128x512, .bf16⟩
  | .local _ .vmem, ⟨4, _⟩ => ⟨S4x2x128x256, .bf16⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v48 : Index := Scalar.indexCast v2
  let c0_37 : Index := 0#32
  let c0_38 : Index := 0#32
  let c0_39 : Index := 0#32
  ![v48.toNat, 0, 0, 0]
def k0_off2 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v57 : Index := Scalar.indexCast v2
  let c0_44 : Index := 0#32
  let c0_45 : Index := 0#32
  let c64_46 : Index := 64#32
  ![v57.toNat, 0, 0, 64]
def k0_off3 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v66 : Index := Scalar.indexCast v2
  let c0_51 : Index := 0#32
  let c0_52 : Index := 0#32
  let c128_53 : Index := 128#32
  ![v66.toNat, 0, 0, 128]
def k0_off4 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v75 : Index := Scalar.indexCast v2
  let c0_58 : Index := 0#32
  let c0_59 : Index := 0#32
  let c192_60 : Index := 192#32
  ![v75.toNat, 0, 0, 192]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_68 : BitVec 32 := 0#32
  ![v2.toNat, 0]
def k0_off6 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_67 : BitVec 32 := 0#32
  let c0_i32_73 : BitVec 32 := 0#32
  let c0_i32_74 : BitVec 32 := 0#32
  ![v2.toNat, 0, 0, 0]
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_64 : BitVec 32 := 2#32
  let v82 : BitVec 32 := Scalar.addi v2 c2_i32_64
  let c4_i32_65 : BitVec 32 := 4#32
  let v83 : BitVec 32 := Scalar.remsi v82 c4_i32_65
  let c1_i32_71 : BitVec 32 := 1#32
  let v84 : BitVec 32 := Scalar.muli v83 c1_i32_71
  let v85 : BitVec 32 := Scalar.addi c0_i32_72 v84
  v85.toNat
def k0_dev5 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_77 : BitVec 32 := 1#32
  let v94 : BitVec 32 := Scalar.addi v2 c1_i32_77
  let c4_i32_78 : BitVec 32 := 4#32
  let v95 : BitVec 32 := Scalar.remsi v94 c4_i32_78
  let c1_i32_84 : BitVec 32 := 1#32
  let v96 : BitVec 32 := Scalar.muli v95 c1_i32_84
  let v97 : BitVec 32 := Scalar.addi c0_i32_85 v96
  v97.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_90 : BitVec 32 := 3#32
  let v106 : BitVec 32 := Scalar.addi v2 c3_i32_90
  let c4_i32_91 : BitVec 32 := 4#32
  let v107 : BitVec 32 := Scalar.remsi v106 c4_i32_91
  let c1_i32_97 : BitVec 32 := 1#32
  let v108 : BitVec 32 := Scalar.muli v107 c1_i32_97
  let v109 : BitVec 32 := Scalar.addi c0_i32_98 v108
  v109.toNat
def k0_off7 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v150 : Index := Scalar.indexCast v2
  let c1_137 : Index := 1#32
  let c0_138 : Index := 0#32
  let c0_139 : Index := 0#32
  ![v150.toNat, 1, 0, 0]
def k0_off8 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v159 : Index := Scalar.indexCast v2
  let c1_145 : Index := 1#32
  let c0_146 : Index := 0#32
  let c64_147 : Index := 64#32
  ![v159.toNat, 1, 0, 64]
def k0_off9 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v168 : Index := Scalar.indexCast v2
  let c1_153 : Index := 1#32
  let c0_154 : Index := 0#32
  let c128_155 : Index := 128#32
  ![v168.toNat, 1, 0, 128]
def k0_off10 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v177 : Index := Scalar.indexCast v2
  let c1_161 : Index := 1#32
  let c0_162 : Index := 0#32
  let c192_163 : Index := 192#32
  ![v177.toNat, 1, 0, 192]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_168 : BitVec 32 := 1#32
  ![v2.toNat, 1]
def k0_off12 (d0 : Dev nD) : Fin 4 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_167 : BitVec 32 := 1#32
  let c0_i32_173 : BitVec 32 := 0#32
  let c0_i32_174 : BitVec 32 := 0#32
  ![v2.toNat, 1, 0, 0]
def k0_dev7 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_164 : BitVec 32 := 2#32
  let v181 : BitVec 32 := Scalar.addi v2 c2_i32_164
  let c4_i32_165 : BitVec 32 := 4#32
  let v182 : BitVec 32 := Scalar.remsi v181 c4_i32_165
  let c1_i32_171 : BitVec 32 := 1#32
  let v183 : BitVec 32 := Scalar.muli v182 c1_i32_171
  let v184 : BitVec 32 := Scalar.addi c0_i32_172 v183
  v184.toNat
def k0_dev8 (d0 : Dev nD) : Nat :=
  let c0_i32_185 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_177 : BitVec 32 := 1#32
  let v193 : BitVec 32 := Scalar.addi v2 c1_i32_177
  let c4_i32_178 : BitVec 32 := 4#32
  let v194 : BitVec 32 := Scalar.remsi v193 c4_i32_178
  let c1_i32_184 : BitVec 32 := 1#32
  let v195 : BitVec 32 := Scalar.muli v194 c1_i32_184
  let v196 : BitVec 32 := Scalar.addi c0_i32_185 v195
  v196.toNat
def k0_dev9 (d0 : Dev nD) : Nat :=
  let c0_i32_198 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_190 : BitVec 32 := 3#32
  let v205 : BitVec 32 := Scalar.addi v2 c3_i32_190
  let c4_i32_191 : BitVec 32 := 4#32
  let v206 : BitVec 32 := Scalar.remsi v205 c4_i32_191
  let c1_i32_197 : BitVec 32 := 1#32
  let v207 : BitVec 32 := Scalar.muli v206 c1_i32_197
  let v208 : BitVec 32 := Scalar.addi c0_i32_198 v207
  v208.toNat
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8x64x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 68
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x1024, .f32⟩
  | .hbm, ⟨2, _⟩ => ⟨S2x128x16x64, .f32⟩
  | .hbm, ⟨3, _⟩ => ⟨S2x128x16x64, .f32⟩
  | .hbm, ⟨4, _⟩ => ⟨S1024x512, .f32⟩
  | .hbm, ⟨5, _⟩ => ⟨S2x128x1024, .f32⟩
  | .hbm, ⟨6, _⟩ => ⟨S2x128x16x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S_, .i32⟩
  | .hbm, ⟨19, _⟩ => ⟨S1x128, .i32⟩
  | .hbm, ⟨20, _⟩ => ⟨S1x128, .i1⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S128x128, .i1⟩
  | .hbm, ⟨25, _⟩ => ⟨S128x128, .i1⟩
  | .hbm, ⟨26, _⟩ => ⟨S128x128, .i1⟩
  | .hbm, ⟨27, _⟩ => ⟨S128x128, .i1⟩
  | .hbm, ⟨28, _⟩ => ⟨S2x16x128x128, .f32⟩
  | .hbm, ⟨29, _⟩ => ⟨S_, .f32⟩
  | .hbm, ⟨30, _⟩ => ⟨S2x16x128x128, .f32⟩
  | .hbm, ⟨31, _⟩ => ⟨S2x16x128x128, .f32⟩
  | .hbm, ⟨32, _⟩ => ⟨S1x1x128x128, .i1⟩
  | .hbm, ⟨33, _⟩ => ⟨S_, .f32⟩
  | .hbm, ⟨34, _⟩ => ⟨S_, .f32⟩
  | .hbm, ⟨35, _⟩ => ⟨S2x16x128x128, .i1⟩
  | .hbm, ⟨36, _⟩ => ⟨S2x16x128x128, .f32⟩
  | .hbm, ⟨37, _⟩ => ⟨S2x16x128x128, .f32⟩
  | .hbm, ⟨38, _⟩ => ⟨S_, .f32⟩
  | .hbm, ⟨39, _⟩ => ⟨S2x16x128, .f32⟩
  | .hbm, ⟨40, _⟩ => ⟨S2x16x128x1, .f32⟩
  | .hbm, ⟨41, _⟩ => ⟨S2x16x128x128, .f32⟩
  | .hbm, ⟨42, _⟩ => ⟨S2x16x128x128, .f32⟩
  | .hbm, ⟨43, _⟩ => ⟨S2x16x128x128, .f32⟩
  | .hbm, ⟨44, _⟩ => ⟨S_, .i1⟩
  | .hbm, ⟨45, _⟩ => ⟨S128, .i1⟩
  | .hbm, ⟨46, _⟩ => ⟨S1x1x128x1, .i1⟩
  | .hbm, ⟨47, _⟩ => ⟨S_, .f32⟩
  | .hbm, ⟨48, _⟩ => ⟨S2x16x128, .f32⟩
  | .hbm, ⟨49, _⟩ => ⟨S2x16x128x1, .f32⟩
  | .hbm, ⟨50, _⟩ => ⟨S_, .f32⟩
  | .hbm, ⟨51, _⟩ => ⟨S_, .f32⟩
  | .hbm, ⟨52, _⟩ => ⟨S2x16x128x1, .i1⟩
  | .hbm, ⟨53, _⟩ => ⟨S2x16x128x1, .f32⟩
  | .hbm, ⟨54, _⟩ => ⟨S2x16x128x1, .f32⟩
  | .hbm, ⟨55, _⟩ => ⟨S2x16x128x128, .f32⟩
  | .hbm, ⟨56, _⟩ => ⟨S2x16x128x128, .f32⟩
  | .hbm, ⟨57, _⟩ => ⟨S1x1x128x1, .i1⟩
  | .hbm, ⟨58, _⟩ => ⟨S_, .f32⟩
  | .hbm, ⟨59, _⟩ => ⟨S_, .f32⟩
  | .hbm, ⟨60, _⟩ => ⟨S2x16x128x128, .i1⟩
  | .hbm, ⟨61, _⟩ => ⟨S2x16x128x128, .f32⟩
  | .hbm, ⟨62, _⟩ => ⟨S2x16x128x128, .f32⟩
  | .hbm, ⟨63, _⟩ => ⟨S2x16x64x128, .f32⟩
  | .hbm, ⟨64, _⟩ => ⟨S2x128x16x64, .f32⟩
  | .hbm, ⟨65, _⟩ => ⟨S2x128x1024, .f32⟩
  | .hbm, ⟨66, _⟩ => ⟨S2x128x512, .f32⟩
  | .hbm, ⟨67, _⟩ => ⟨S2x128x512, .bf16⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]
-- ==== Proof.Proto.lean ====
/- The protocol of the kernel's one region: four devices exchange the two batch halves of their context
   block through six remote copies each. The cells, what each landing hands over, the levels, and what a
   device owes at launch. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Launch
public import Idealize.ShloMosaic.Lib.Pipeline.Kit
public import Idealize.ShloMosaic.Lib.Pipeline.RegionTalk
public import Idealize.ShloMosaic.Lib.Pipeline.Value
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's own ghost state: rounds of three duties. -/
abbrev UX : Type := URounds (GSem nD τ sig) (Fin 3)
abbrev UU : Type := UR sig nD τ × UX

local notation "𝕄" => MT nD τ sig Unit (Elt F) ℕ UU ℕ

/-- The pipeline library's half of the ghost state. -/
abbrev EP : Emb (UR sig nD τ) (MT nD τ sig Unit (Elt F) ℕ UU ℕ) := embL
/-- The exchange's half. -/
abbrev ER : Emb UX (MT nD τ sig Unit (Elt F) ℕ UU ℕ) := embR

variable (m : (ℓ : Loc nD τ sig) → Buf (Elt F) ℓ)

/-! ## The peers -/

/-- The device `j + 1` places further round the mesh. -/
def pr (c : Dev nD) (j : Fin 3) : Dev nD := ⟨(c.val + (j.val + 1)) % 4, Nat.mod_lt _ (by decide)⟩

/-- Going `j + 1` places on and then the rest of the way round comes back. -/
theorem pr_rev (c : Dev nD) (j : Fin 3) : pr (pr c j) j.rev = c := by revert c j; decide
theorem pr_rev' (c : Dev nD) (j : Fin 3) : pr (pr c j.rev) j = c := by revert c j; decide
theorem pr_ne (c : Dev nD) (j : Fin 3) : pr c j ≠ c := by revert c j; decide
/-- Going `j + 1` places round permutes the devices. -/
def turn (j : Fin 3) : Dev nD ≃ Dev nD := ⟨fun c => pr c j, fun c => pr c j.rev, fun c => pr_rev c j, fun c => pr_rev' c j⟩

/-! ## Semaphores and cells -/

/-- The barrier semaphore. -/
abbrev barS : Sem sig := ⟨0, by decide⟩
/-- The send semaphore of the copy to the peer `j`, batch `b`. -/
def sS (j : Fin 3) (b : Fin 2) : DmaSem sig := ⟨4 + (2 * j.val + b.val), (by decide +revert : 4 + (2 * j.val + b.val) < 18)⟩
/-- The receive semaphore of device `o`'s slot, batch `b`. -/
def rS (o : Dev nD) (b : Fin 2) : DmaSem sig := ⟨10 + (2 * o.val + b.val), (by have := o.isLt; have := b.isLt; have : nD = 4 := rfl; omega : 10 + (2 * o.val + b.val) < 18)⟩

abbrev barCell (c : Dev nD) : GSem nD τ sig := ((c : Thread nD τ), .reg barS)
abbrev sendCell (c : Dev nD) (j : Fin 3) (b : Fin 2) : GSem nD τ sig := ((c : Thread nD τ), .dma (sS j b))
abbrev recvCell (c o : Dev nD) (b : Fin 2) : GSem nD τ sig := ((c : Thread nD τ), .dma (rS o b))

def jOf (s : DmaSem sig) : Fin 3 := ⟨(s.val - 4) / 2 % 3, Nat.mod_lt _ (by decide)⟩
def oOf (s : DmaSem sig) : Dev nD := ⟨(s.val - 10) / 2 % 4, Nat.mod_lt _ (by decide)⟩
def bOf (s : DmaSem sig) : Fin 2 := ⟨s.val % 2, Nat.mod_lt _ (by decide)⟩

theorem jOf_sS (j : Fin 3) (b : Fin 2) : jOf (sS j b) = j := by revert j b; decide
theorem bOf_sS (j : Fin 3) (b : Fin 2) : bOf (sS j b) = b := by revert j b; decide
theorem oOf_rS (o : Dev nD) (b : Fin 2) : oOf (rS o b) = o := by revert o b; decide
theorem bOf_rS (o : Dev nD) (b : Fin 2) : bOf (rS o b) = b := by revert o b; decide
theorem sS_val (j : Fin 3) (b : Fin 2) : 4 ≤ (sS j b).val ∧ (sS j b).val < 10 := by revert j b; decide
theorem rS_val (o : Dev nD) (b : Fin 2) : 10 ≤ (rS o b).val := by revert o b; decide

/-! ## The slots of the exchange buffer -/

abbrev qM : Memref sig .tc .vmem S256x256 .bf16 := Memref.whole cc0_stg0_0
abbrev kvM : Memref sig .tc .vmem S2x8x64x128 .bf16 := Memref.whole cc0_stg1_0
abbrev woM : Memref sig .tc .vmem S1024x512 .f32 := Memref.whole cc0_stg2_0
abbrev oM : Memref sig .tc .vmem S2x128x512 .bf16 := Memref.whole cc0_stg3_0
abbrev cM : Memref sig .tc .vmem S4x2x128x256 .bf16 := Memref.whole cc0_scratch0

theorem slot_inb (o : Dev nD) (b : Fin 2) : ∀ a, (![o.val, b.val, 0, 0] : Fin 4 → ℕ) a + S1x1x128x256.size a ≤ S4x2x128x256.size a := by
  revert o b; decide

/-- Batch `b` of device `o`'s block in the exchange buffer. -/
abbrev slotM (o : Dev nD) (b : Fin 2) : Memref sig .tc .vmem S128x256 .bf16 :=
  (cM.slice (Rect.unit (s := S4x2x128x256) ![o.val, b.val, 0, 0] S1x1x128x256.size (slot_inb o b)) (fun _ => rfl)).squeeze S128x256 squeezes_S1x1x128x256_S128x256

theorem mem_slot (o : Dev nD) (b : Fin 2) (i : (cc0_scratch0 : Ref sig .tc).ty.Idx) :
    Iff (i ∈ (slotM o b).view.set) ((i 0).val = o.val ∧ (i 1).val = b.val) := by
  have hs : (slotM o b).view.set = (Rect.unit (s := S4x2x128x256) ![o.val, b.val, 0, 0] S1x1x128x256.size (slot_inb o b)).set :=
    (View.set_reshape _ _).trans (View.set_slice_whole _ _)
  rw [hs, Rect.mem_set_unit]
  have h2 : (i 2).val < 128 := (i 2).isLt
  have h3 : (i 3).val < 256 := (i 3).isLt
  constructor
  · intro h
    have a0 := h 0
    have a1 := h 1
    simp [S1x1x128x256] at a0 a1
    omega
  · rintro ⟨h0, h1⟩ a
    fin_cases a <;> simp [S1x1x128x256] <;> omega

/-- The bytes one copy credits. -/
def N : ℕ := (slotM 0 0).view.dmaCredit
theorem N_eq (o : Dev nD) (b : Fin 2) : (slotM o b).view.dmaCredit = N := by
  unfold N; revert o b; decide
theorem N_pos : 0 < N := by unfold N; exact View.dmaCredit_pos _ (by decide)

/-- Device `c`'s copy of a slot, at a share and contents. -/
def slotPts (c o : Dev nD) (b : Fin 2) (q : PosShare TreeShare) (f : (cc0_scratch0 : Ref sig .tc).ty.Contents (Elt F)) : sProp 𝕄 :=
  (slotM o b).view.loc (c : Thread nD τ) ↦[(slotM o b).view.set]{q} f

instance slotPts_storable (c o : Dev nD) (b : Fin 2) (q : PosShare TreeShare) (f : (cc0_scratch0 : Ref sig .tc).ty.Contents (Elt F)) :
    BI.Storable (upEmb : UEmb _ 𝕄) (slotPts c o b q f) := by unfold slotPts; infer_instance

theorem slotPts_congr (c o : Dev nD) (b : Fin 2) (q : PosShare TreeShare) (f g : (cc0_scratch0 : Ref sig .tc).ty.Contents (Elt F))
    (h : ∀ i : (cc0_scratch0 : Ref sig .tc).ty.Idx, (i 0).val = o.val → (i 1).val = b.val → f i = g i) :
    (slotPts c o b q f : sProp 𝕄) = slotPts c o b q g := by
  unfold slotPts
  exact pointsTo_congr fun i hi => h i ((mem_slot o b i).mp hi).1 ((mem_slot o b i).mp hi).2

/-- The share the copy to the peer `j` reads the own slot at. -/
def qs : Fin 3 → PosShare TreeShare := fun | 0 => fullShare.left.left | 1 => fullShare.left.right | 2 => fullShare.right.left
/-- The share kept for the own load. -/
def qk : PosShare TreeShare := fullShare.right.right

theorem slot_shares (c o : Dev nD) (b : Fin 2) (f : (cc0_scratch0 : Ref sig .tc).ty.Contents (Elt F)) :
    (slotPts c o b fullShare f : sProp 𝕄) ⊣⊢ iprop(slotPts c o b (qs 1) f ∗ slotPts c o b (qs 0) f ∗ slotPts c o b (qs 2) f ∗ slotPts c o b qk f) := by
  unfold slotPts qs qk
  have h1 := pointsTo_share (Ix := Unit) (Name := ℕ) (U := UU) (Lvl := ℕ) (Val := Elt F) (ℓ := (slotM o b).view.loc (c : Thread nD τ)) (I := (slotM o b).view.set) (f := f) (PosShare.mem_left_op_right fullShare)
  have h2 := pointsTo_share (Ix := Unit) (Name := ℕ) (U := UU) (Lvl := ℕ) (Val := Elt F) (ℓ := (slotM o b).view.loc (c : Thread nD τ)) (I := (slotM o b).view.set) (f := f) (PosShare.mem_left_op_right fullShare.left)
  have h3 := pointsTo_share (Ix := Unit) (Name := ℕ) (U := UU) (Lvl := ℕ) (Val := Elt F) (ℓ := (slotM o b).view.loc (c : Thread nD τ)) (I := (slotM o b).view.set) (f := f) (PosShare.mem_left_op_right fullShare.right)
  constructor
  · iintro H
    ihave H := h1.1 $$ H; icases H with ⟨Ha, Hb⟩
    ihave Ha := h2.1 $$ Ha; icases Ha with ⟨H0, H1⟩
    ihave Hb := h3.1 $$ Hb; icases Hb with ⟨H2, H3⟩
    isplitl [H1]; · iexact H1
    isplitl [H0]; · iexact H0
    isplitl [H2] <;> iassumption
  · iintro ⟨H1, H0, H2, H3⟩
    iapply h1.2
    isplitl [H0 H1]
    · iapply h2.2; isplitl [H0] <;> iassumption
    · iapply h3.2; isplitl [H2] <;> iassumption

/-! ## What the exchange buffer holds in the end -/

/-- A batch row block of the staged queries: 128 rows, one head's 64 columns. -/
abbrev ldQ (q : (cc0_stg0_0 : Ref sig .tc).ty.Contents (Elt F)) (off : Fin 2 → ℕ) (inb : ∀ a, off a + S128x64.size a ≤ S256x256.size a) : Vec F S128x64 .bf16 :=
  qM.view.readAt (Elt F) (Rect.unit (s := S256x256) off S128x64.size inb).toLoadRect q
/-- One batch's block of one head of the staged keys (heads 0 to 3) or values (heads 4 to 7). -/
abbrev ldK (kv : (cc0_stg1_0 : Ref sig .tc).ty.Contents (Elt F)) (off : Fin 4 → ℕ) (inb : ∀ a, off a + S1x1x64x128.size a ≤ S2x8x64x128.size a) : Vec F S1x1x64x128 .bf16 :=
  kvM.view.readAt (Elt F) (Rect.unit (s := S2x8x64x128) off S1x1x64x128.size inb).toLoadRect kv

section Pieces
variable (q : (cc0_stg0_0 : Ref sig .tc).ty.Contents (Elt F)) (kv : (cc0_stg1_0 : Ref sig .tc).ty.Contents (Elt F))

/-- Batch 0, head `h`: the context block the kernel stores. -/
def pc0 : Fin 4 → FVec F S1x1x128x64 .bf16
  | 0 => k0_pay5 (k0_pay1 (ldQ q ![0, 0] inb_S256x256_S128x64_0_0) (ldK kv ![0, 0, 0, 0] inb_S2x8x64x128_S1x1x64x128_0_0_0_0))
      (k0_pay2 (ldQ q ![0, 64] inb_S256x256_S128x64_0_64)) (k0_pay3 (ldK kv ![0, 1, 0, 0] inb_S2x8x64x128_S1x1x64x128_0_1_0_0))
      (constant S128x128 .f32 0x00000000#32)
      (ldQ q ![0, 128] inb_S256x256_S128x64_0_128) (ldK kv ![0, 2, 0, 0] inb_S2x8x64x128_S1x1x64x128_0_2_0_0)
      (ldQ q ![0, 192] inb_S256x256_S128x64_0_192) (ldK kv ![0, 3, 0, 0] inb_S2x8x64x128_S1x1x64x128_0_3_0_0)
      (ldK kv ![0, 4, 0, 0] inb_S2x8x64x128_S1x1x64x128_0_4_0_0)
  | 1 => k0_pay7 (k0_pay6 (k0_pay1 (ldQ q ![0, 0] inb_S256x256_S128x64_0_0) (ldK kv ![0, 0, 0, 0] inb_S2x8x64x128_S1x1x64x128_0_0_0_0))
      (k0_pay2 (ldQ q ![0, 64] inb_S256x256_S128x64_0_64)) (k0_pay3 (ldK kv ![0, 1, 0, 0] inb_S2x8x64x128_S1x1x64x128_0_1_0_0))
      (constant S128x128 .f32 0x00000000#32)
      (ldQ q ![0, 128] inb_S256x256_S128x64_0_128) (ldK kv ![0, 2, 0, 0] inb_S2x8x64x128_S1x1x64x128_0_2_0_0)
      (ldQ q ![0, 192] inb_S256x256_S128x64_0_192) (ldK kv ![0, 3, 0, 0] inb_S2x8x64x128_S1x1x64x128_0_3_0_0)
      (ldK kv ![0, 5, 0, 0] inb_S2x8x64x128_S1x1x64x128_0_5_0_0))
  | 2 => k0_pay8 (k0_pay4 (k0_pay1 (ldQ q ![0, 0] inb_S256x256_S128x64_0_0) (ldK kv ![0, 0, 0, 0] inb_S2x8x64x128_S1x1x64x128_0_0_0_0))
      (k0_pay2 (ldQ q ![0, 64] inb_S256x256_S128x64_0_64)) (k0_pay3 (ldK kv ![0, 1, 0, 0] inb_S2x8x64x128_S1x1x64x128_0_1_0_0))
      (constant S128x128 .f32 0x00000000#32)
      (ldQ q ![0, 128] inb_S256x256_S128x64_0_128) (ldK kv ![0, 2, 0, 0] inb_S2x8x64x128_S1x1x64x128_0_2_0_0)
      (ldQ q ![0, 192] inb_S256x256_S128x64_0_192) (ldK kv ![0, 3, 0, 0] inb_S2x8x64x128_S1x1x64x128_0_3_0_0))
      (ldK kv ![0, 6, 0, 0] inb_S2x8x64x128_S1x1x64x128_0_6_0_0)
  | 3 => k0_pay9 (k0_pay4 (k0_pay1 (ldQ q ![0, 0] inb_S256x256_S128x64_0_0) (ldK kv ![0, 0, 0, 0] inb_S2x8x64x128_S1x1x64x128_0_0_0_0))
      (k0_pay2 (ldQ q ![0, 64] inb_S256x256_S128x64_0_64)) (k0_pay3 (ldK kv ![0, 1, 0, 0] inb_S2x8x64x128_S1x1x64x128_0_1_0_0))
      (constant S128x128 .f32 0x00000000#32)
      (ldQ q ![0, 128] inb_S256x256_S128x64_0_128) (ldK kv ![0, 2, 0, 0] inb_S2x8x64x128_S1x1x64x128_0_2_0_0)
      (ldQ q ![0, 192] inb_S256x256_S128x64_0_192) (ldK kv ![0, 3, 0, 0] inb_S2x8x64x128_S1x1x64x128_0_3_0_0))
      (ldK kv ![0, 7, 0, 0] inb_S2x8x64x128_S1x1x64x128_0_7_0_0)

/-- Batch 1: the four heads' scores, stacked. -/
abbrev sc1 : FVec F S512x128 .f32 :=
  k0_pay11 (ldQ q ![128, 0] inb_S256x256_S128x64_128_0) (ldK kv ![1, 0, 0, 0] inb_S2x8x64x128_S1x1x64x128_1_0_0_0)
    (ldQ q ![128, 64] inb_S256x256_S128x64_128_64) (ldK kv ![1, 1, 0, 0] inb_S2x8x64x128_S1x1x64x128_1_1_0_0)
    (ldQ q ![128, 128] inb_S256x256_S128x64_128_128) (ldK kv ![1, 2, 0, 0] inb_S2x8x64x128_S1x1x64x128_1_2_0_0)
    (ldQ q ![128, 192] inb_S256x256_S128x64_128_192) (ldK kv ![1, 3, 0, 0] inb_S2x8x64x128_S1x1x64x128_1_3_0_0)

/-- Batch 1, head `h`: the context block the kernel stores. -/
def pc1 : Fin 4 → FVec F S1x1x128x64 .bf16
  | 0 => k0_pay13 (sc1 q kv) (ldK kv ![1, 4, 0, 0] inb_S2x8x64x128_S1x1x64x128_1_4_0_0)
  | 1 => k0_pay14 (sc1 q kv) (ldK kv ![1, 5, 0, 0] inb_S2x8x64x128_S1x1x64x128_1_5_0_0)
  | 2 => k0_pay15 (sc1 q kv) (ldK kv ![1, 6, 0, 0] inb_S2x8x64x128_S1x1x64x128_1_6_0_0)
  | 3 => k0_pay16 (k0_pay12 (sc1 q kv)) (ldK kv ![1, 7, 0, 0] inb_S2x8x64x128_S1x1x64x128_1_7_0_0)

/-- The context block of batch `b`, head `h`. -/
def pc (b : Fin 2) (h : Fin 4) : FVec F S1x1x128x64 .bf16 := if b = 0 then pc0 q kv h else pc1 q kv h
end Pieces

/-- The index of the row `r`, column `k` of a head's block. -/
def hix (r : Fin 128) (k : Fin 64) : S1x1x128x64.Idx := fun
  | 0 => (⟨0, by decide⟩ : Fin 1) | 1 => (⟨0, by decide⟩ : Fin 1) | 2 => r | 3 => k

/-- Device `c`'s staged queries, keys and values, and output weights. -/
def stQ (c : Dev nD) : (cc0_stg0_0 : Ref sig .tc).ty.Contents (Elt F) := V1 m c main_v14
def stK (c : Dev nD) : (cc0_stg1_0 : Ref sig .tc).ty.Contents (Elt F) := V1 m c main_v19
def stW (c : Dev nD) : (cc0_stg2_0 : Ref sig .tc).ty.Contents (Elt F) := V1 m c main_arg4

/-- What every device's exchange buffer holds once all copies have landed. -/
def G : (cc0_scratch0 : Ref sig .tc).ty.Contents (Elt F) := fun i =>
  pc (stQ m (i 0)) (stK m (i 0)) (i 1) ⟨(i 3).val / 64, by have : (i 3).val < 256 := (i 3).isLt; omega⟩
    (hix (i 2) ⟨(i 3).val % 64, Nat.mod_lt _ (by decide)⟩)

/-! ## The schedule -/

/-- Paid to device `c`'s barrier cell by its peer: the peer's two slots for `c`'s block, and that the first round of
    the peer's two cells for them is open. -/
def barPay (c : Dev nD) (j : Fin 3) : sProp 𝕄 :=
  iprop((∃ f, slotPts (F := F) (pr c j.rev) c 0 fullShare f) ∗ (∃ f, slotPts (F := F) (pr c j.rev) c 1 fullShare f)
    ∗ reached ER (recvCell (pr c j.rev) c 0) 0 ∗ reached ER (recvCell (pr c j.rev) c 1) 0)
/-- Paid to a receive cell by the copy: the slot, at the sender's block. -/
def recvPay (c o : Dev nD) (b : Fin 2) : sProp 𝕄 := slotPts c o b fullShare (G m)
/-- Paid to a send cell by the own copy: the own slot back, at the copy's share. -/
def sendPay (c : Dev nD) (j : Fin 3) (b : Fin 2) : sProp 𝕄 := slotPts c c b (qs j) (G m)

/-- One round: three duties on a barrier cell, one on a send cell, one on the receive cell of another device's slot. -/
def Rd : Rounds.Schedule (GSem nD τ sig) (Fin 3) 𝕄 where
  duties g r := if r = 0 ∧ g.1.2 = .tc then (match g.2 with
    | .reg _ => Finset.univ
    | .dma s => if s.val < 10 then {0} else if oOf s = g.1.1 then ∅ else {0}) else ∅
  unitless _ := False
  amount g _ _ := match g.2 with | .reg _ => 1 | .dma _ => N
  payload g r d := match g.2 with
    | .reg _ => barPay g.1.1 d
    | .dma s => if s.val < 10 then sendPay m g.1.1 (jOf s) (bOf s) else recvPay m g.1.1 (oOf s) (bOf s)
  amount_pos g _ _ _ := by
    rcases g with ⟨t, s | s⟩
    · exact Nat.one_pos
    · exact N_pos

instance Rd_payload_storable (g : GSem nD τ sig) (r : ℕ) (d : Fin 3) :
    BI.Storable (upEmb : UEmb _ 𝕄) ((Rd (F := F) m).payload g r d) := by
  rcases g with ⟨t, s | s⟩
  · show BI.Storable upEmb (barPay t.1 d)
    unfold barPay; infer_instance
  · show BI.Storable upEmb (if s.val < 10 then sendPay m t.1 (jOf s) (bOf s) else recvPay m t.1 (oOf s) (bOf s))
    unfold sendPay recvPay
    split <;> infer_instance

section Sched
variable (c o : Dev nD) (j : Fin 3) (b : Fin 2) (d : Fin 3)

theorem duties_bar : (Rd (F := F) m).duties (barCell c) 0 = Finset.univ := by dsimp only [Rd]; exact if_pos ⟨rfl, rfl⟩
theorem duties_send : (Rd (F := F) m).duties (sendCell c j b) 0 = {0} := by
  dsimp only [Rd]; rw [if_pos ⟨rfl, rfl⟩, if_pos (sS_val j b).2]
theorem duties_recv (h : o ≠ c) : (Rd (F := F) m).duties (recvCell c o b) 0 = {0} := by
  dsimp only [Rd]; rw [if_pos ⟨rfl, rfl⟩, if_neg (Nat.not_lt.mpr (rS_val o b)), if_neg (by rw [oOf_rS]; exact h)]
theorem duties_own : ∀ r, 0 ≤ r → (Rd (F := F) m).duties (recvCell c c b) r = ∅ := fun r _ => by
  dsimp only [Rd]; split
  · rw [if_neg (Nat.not_lt.mpr (rS_val c b)), if_pos (oOf_rS c b)]
  · rfl
theorem duties_later (g : GSem nD τ sig) : ∀ r, 1 ≤ r → (Rd (F := F) m).duties g r = ∅ := fun r hr => by
  dsimp only [Rd]; exact if_neg (fun h => by omega)

theorem amount_bar : (Rd (F := F) m).amount (barCell c) 0 d = 1 := rfl
theorem amount_send : (Rd (F := F) m).amount (sendCell c j b) 0 d = N := rfl
theorem amount_recv : (Rd (F := F) m).amount (recvCell c o b) 0 d = N := rfl

theorem expect_bar : (Rd (F := F) m).expect (barCell c) 0 = 3 := by
  unfold Schedule.expect Schedule.amountOf; rw [duties_bar]
  rw [Finset.sum_congr rfl fun d _ => amount_bar m c d]; rfl
theorem expect_send : (Rd (F := F) m).expect (sendCell c j b) 0 = N := by
  unfold Schedule.expect Schedule.amountOf; rw [duties_send, Finset.sum_singleton, amount_send]
theorem expect_recv (h : o ≠ c) : (Rd (F := F) m).expect (recvCell c o b) 0 = N := by
  unfold Schedule.expect Schedule.amountOf; rw [duties_recv m c o b h, Finset.sum_singleton, amount_recv]

theorem payload_bar : (Rd (F := F) m).payload (barCell c) 0 d = barPay c d := rfl
theorem payload_send : (Rd (F := F) m).payload (sendCell c j b) 0 d = sendPay m c j b := by
  dsimp only [Rd]; rw [if_pos (sS_val j b).2, jOf_sS, bOf_sS]
theorem payload_recv : (Rd (F := F) m).payload (recvCell c o b) 0 d = recvPay m c o b := by
  dsimp only [Rd]; rw [if_neg (Nat.not_lt.mpr (rS_val o b)), oOf_rS, bOf_rS]

theorem rest_bar : bigSep ((Rd (F := F) m).duties (barCell c) 0 \ ∅) (fun d => (Rd (F := F) m).payload (barCell c) 0 d)
    = (iprop(barPay c 0 ∗ barPay c 1 ∗ barPay c 2) : sProp 𝕄) := by
  rw [Finset.sdiff_empty, duties_bar]
  exact bigSep_univ_eq_bigSepL [0, 1, 2] (by decide) (by decide) _
theorem rest_send : bigSep ((Rd (F := F) m).duties (sendCell c j b) 0 \ ∅) (fun d => (Rd (F := F) m).payload (sendCell c j b) 0 d) = sendPay m c j b := by
  rw [Finset.sdiff_empty, duties_send, bigSep_singleton, payload_send]
theorem rest_recv (h : o ≠ c) : bigSep ((Rd (F := F) m).duties (recvCell c o b) 0 \ ∅) (fun d => (Rd (F := F) m).payload (recvCell c o b) 0 d) = recvPay m c o b := by
  rw [Finset.sdiff_empty, duties_recv m c o b h, bigSep_singleton, payload_recv]
end Sched

/-! ## What a device owes at launch; the levels -/

/-- What is left to pay before the last copies, from the last copy back to the first signal. -/
def o1 (c : Dev nD) : CellTallies nD τ sig Unit := 0 + tallyAt (recvCell (pr c 2) c 1) () N
def o2 (c : Dev nD) : CellTallies nD τ sig Unit := o1 c + tallyAt (recvCell (pr c 0) c 1) () N
def o3 (c : Dev nD) : CellTallies nD τ sig Unit := o2 c + tallyAt (recvCell (pr c 1) c 1) () N
def o4 (c : Dev nD) : CellTallies nD τ sig Unit := o3 c + tallyAt (recvCell (pr c 2) c 0) () N
def o5 (c : Dev nD) : CellTallies nD τ sig Unit := o4 c + tallyAt (recvCell (pr c 0) c 0) () N
def o6 (c : Dev nD) : CellTallies nD τ sig Unit := o5 c + tallyAt (recvCell (pr c 1) c 0) () N
def o7 (c : Dev nD) : CellTallies nD τ sig Unit := o6 c + tallyAt (barCell (pr c 2)) () 1
def o8 (c : Dev nD) : CellTallies nD τ sig Unit := o7 c + tallyAt (barCell (pr c 1)) () 1
/-- At launch: one unit on each peer's barrier cell, and both copies' bytes on each peer's receive cells. -/
def O₀ (c : Dev nD) : CellTallies nD τ sig Unit := o8 c + tallyAt (barCell (pr c 0)) () 1

def L (g : GSem nD τ sig) : Finset Unit := if g.1.2 = .tc then {()} else ∅
/-- Barrier cells at 1, receive cells at 2, the rest at 0. -/
def lv (g : GSem nD τ sig) (_ : Unit) : ℕ := match g.2 with | .reg _ => 1 | .dma s => if s.val < 10 then 0 else 2

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c o : Dev nD) (b : Fin 2) (u : Unit) : lv (recvCell c o b) u = 2 := by
  dsimp only [lv]; rw [if_neg (Nat.not_lt.mpr (rS_val o b))]

theorem tally_pos {g g' : GSem nD τ sig} {u u' : Unit} {n : ℕ} (h : 0 < (tallyAt g u n : CellTallies nD τ sig Unit) g' u') : g' = g := by
  rw [tallyAt_apply] at h
  split at h
  · next hg => exact hg.1
  · exact absurd h (Nat.lt_irrefl 0)

theorem add_pos_cases {a a' : CellTallies nD τ sig Unit} {g : GSem nD τ sig} {u : Unit} (h : 0 < (a + a') g u) : 0 < a g u ∨ 0 < a' g u := by
  rw [Pi.add_apply, Finsupp.add_apply] at h
  exact Nat.add_pos_iff_pos_or_pos.mp h

/-- After the signals only receive cells are owed. -/
theorem o6_pos {c : Dev nD} {g : GSem nD τ sig} {u : Unit} (h : 0 < o6 c g u) : ∃ j b, g = recvCell (pr c j) c b := by
  unfold o6 o5 o4 o3 o2 o1 at h
  rcases add_pos_cases h with h | h
  · rcases add_pos_cases h with h | h
    · rcases add_pos_cases h with h | h
      · rcases add_pos_cases h with h | h
        · rcases add_pos_cases h with h | h
          · rcases add_pos_cases h with h | h
            · exact absurd h (Nat.lt_irrefl 0)
            · exact ⟨_, _, tally_pos h⟩
          · exact ⟨_, _, tally_pos h⟩
        · exact ⟨_, _, tally_pos h⟩
      · exact ⟨_, _, tally_pos h⟩
    · exact ⟨_, _, tally_pos h⟩
  · exact ⟨_, _, tally_pos h⟩

theorem O₀_pos {c : Dev nD} {g : GSem nD τ sig} {u : Unit} (h : 0 < O₀ c g u) :
    (∃ j, g = barCell (pr c j)) ∨ ∃ j b, g = recvCell (pr c j) c b := by
  unfold O₀ o8 o7 at h
  rcases add_pos_cases h with h | h
  · rcases add_pos_cases h with h | h
    · rcases add_pos_cases h with h | h
      · exact .inr (o6_pos h)
      · exact .inl ⟨_, tally_pos h⟩
    · exact .inl ⟨_, tally_pos h⟩
  · exact .inl ⟨_, tally_pos h⟩

/-- The barrier wait is allowed while the copies are still owed. -/
theorem mayWait_bar (c : Dev nD) : (levAts L lv : sProp 𝕄) ⊢ MayWait (c : Thread nD τ) (.reg barS) () (o6 c) :=
  MayOwe.of_cut (L := L) (lev := lv) 1 (fun p hp => by rw [Finset.mem_singleton.mp hp, L_tc]; exact Finset.mem_singleton_self _)
    (fun g u hg => by obtain ⟨j, b, rfl⟩ := o6_pos hg; rw [L_tc]; exact Finset.mem_singleton_self _)
    (fun p hp => by rw [Finset.mem_singleton.mp hp]; exact le_refl 1)
    (fun g u hg => by obtain ⟨j, b, rfl⟩ := o6_pos hg; rw [lv_recv]; decide)

end Cert.Exchange

end
-- ==== Proof.Wraps.lean ====
/- The exchange's ghost state on one device, and one step of the body at a time: the signals, the waits,
   the copies, and the loads and stores of the exchange buffer's slots. -/
module

public import proofs.«01_k».proof.Proof.Proto

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- A device's fourteen scoped cells: six send cells, then eight receive cells. -/
def osem (k : Fin 14) : SemLoc sig := .dma (⟨4 + k.val, (by have := k.isLt; omega : 4 + k.val < 18)⟩ : DmaSem sig)
theorem osem_inj : Function.Injective osem := by decide

def barEmb : Dev nD ↪ GSem nD τ sig := ⟨fun c => barCell c, fun _ _ h => congrArg (fun g : GSem nD τ sig => g.1.1) h⟩
def scEmb : Dev nD × Fin 14 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev scCells : Finset (GSem nD τ sig) := Finset.univ.map scEmb

def kS (j : Fin 3) (b : Fin 2) : Fin 14 := ⟨2 * j.val + b.val, by omega⟩
def kR (o : Dev nD) (b : Fin 2) : Fin 14 := ⟨6 + (2 * o.val + b.val), by have : o.val < 4 := o.isLt; omega⟩
theorem osem_kS (j : Fin 3) (b : Fin 2) : osem (kS j b) = .dma (sS j b) := by revert j b; decide
theorem osem_kR (o : Dev nD) (b : Fin 2) : osem (kR o b) = .dma (rS o b) := by revert o b; decide

theorem bar_mem (c : Dev nD) : Membership.mem (barCells ∪ scCells : Finset (GSem nD τ sig)) (barCell c) :=
  Finset.mem_union_left _ (Finset.mem_map.mpr ⟨c, Finset.mem_univ _, rfl⟩)
theorem bar_mem' (c : Dev nD) : Membership.mem (barCells : Finset (GSem nD τ sig)) (barCell c) :=
  Finset.mem_map.mpr ⟨c, Finset.mem_univ _, rfl⟩
theorem send_mem (c : Dev nD) (j : Fin 3) (b : Fin 2) : Membership.mem (barCells ∪ scCells : Finset (GSem nD τ sig)) (sendCell c j b) :=
  Finset.mem_union_right _ (Finset.mem_map.mpr ⟨(c, kS j b), Finset.mem_univ _, Prod.ext rfl (osem_kS j b)⟩)
theorem recv_mem (c o : Dev nD) (b : Fin 2) : Membership.mem (barCells ∪ scCells : Finset (GSem nD τ sig)) (recvCell c o b) :=
  Finset.mem_union_right _ (Finset.mem_map.mpr ⟨(c, kR o b), Finset.mem_univ _, Prod.ext rfl (osem_kR o b)⟩)

/-- Every cell's invariant, and that the barrier cells' round is open: known to every device. -/
def records (K : GSem nD τ sig → ℕ) : sProp 𝕄 :=
  iprop(bigSep (barCells ∪ scCells) (fun g => cellInv ER (Rd m) (K g) g) ∗ bigSep barCells (fun g => reached ER g 0))
instance records_persistent (K : GSem nD τ sig → ℕ) : BI.Persistent (records m K) := by unfold records; infer_instance

theorem inv_at (K : GSem nD τ sig → ℕ) {g : GSem nD τ sig} (hg : Membership.mem (barCells ∪ scCells : Finset (GSem nD τ sig)) g) :
    records m K ⊢ cellInv ER (Rd m) (K g) g := by
  exact BI.Entails.trans (sep_elim_left (PROP := sProp 𝕄)) (bigSep_elim hg)
theorem reached_bar (K : GSem nD τ sig → ℕ) (c : Dev nD) : records m K ⊢ reached ER (barCell c) 0 := by
  exact BI.Entails.trans (sep_elim_right (PROP := sProp 𝕄)) (bigSep_elim (bar_mem' c))

/-- What a device holds for one copy of its own. -/
def sendIn (c : Dev nD) (j : Fin 3) (b : Fin 2) : sProp 𝕄 :=
  iprop(atPos ER (sendCell c j b) 0 ∅ 0 ∗ reached ER (sendCell c j b) 0 ∗ dutyTok ER (sendCell c j b) 0 0 ∗ dutyTok ER (recvCell (pr c j) c b) 0 0)
/-- What a device holds for one slot of its exchange buffer: for its own slot, only the position of the unused cell. -/
def recvIn (c o : Dev nD) (b : Fin 2) : sProp 𝕄 :=
  iprop(atPos ER (recvCell c o b) 0 ∅ 0 ∗ if o = c then emp else cred (tallyAt (recvCell c o b) () N))
/-- What the region starts from. -/
def opened (K : GSem nD τ sig → ℕ) (c : Dev nD) : sProp 𝕄 :=
  iprop(records m K ∗ levAts L lv ∗ atPos ER (barCell c) 0 ∅ 0 ∗ cred (tallyAt (barCell c) () 3)
    ∗ bigSep Finset.univ (fun j : Fin 3 => dutyTok ER (barCell (pr c j)) 0 j)
    ∗ bigSep Finset.univ (fun x : Fin 3 × Fin 2 => sendIn c x.1 x.2)
    ∗ bigSep Finset.univ (fun x : Dev nD × Fin 2 => iprop(recvIn c x.1 x.2 ∗ reached ER (recvCell c x.1 x.2) 0)))

abbrev 𝒱₀ : Variants := Variants.none

/-- What a device owes, whatever it has waited on. -/
def ow (c : Dev nD) (O : CellTallies nD τ sig Unit) : sProp 𝕄 := iprop(∃ W, owes (c : Thread nD τ) O W)

/-- A peer's slot for this device's block, ready for the copy. -/
def pslot (c : Dev nD) (j : Fin 3) (b : Fin 2) : sProp 𝕄 :=
  iprop((∃ f, slotPts (F := F) (pr c j) c b fullShare f) ∗ reached ER (recvCell (pr c j) c b) 0)

section Steps

variable (K : GSem nD τ sig → ℕ) (c : Dev nD)

local notation "WP" => wp frame (wpE (defs₀ (F := F)) 𝒱₀ (c : Thread nD τ) none) Set.univ

theorem w_signal {α : Type} {k : PUnit → Prog (TpuEff nD τ sig (Elt F) Λ₀ .tc) α} {Kt : α → sProp 𝕄}
    (j : Fin 3) (n : Dev nD) (hn : n = pr c j) (O O' : CellTallies nD τ sig Unit)
    (hO : O' = O + tallyAt (barCell (pr c j)) () 1) (x : ℤ) (hx : x = 1) (s : Sem sig) (hs : s = barS) :
    iprop(records m K ∗ ow c O' ∗ dutyTok ER (barCell (pr c j)) 0 j ∗ (∃ f, slotPts (F := F) c (pr c j) 0 fullShare f)
        ∗ (∃ f, slotPts (F := F) c (pr c j) 1 fullShare f) ∗ reached ER (recvCell c (pr c j) 0) 0 ∗ reached ER (recvCell c (pr c j) 1) 0)
      ⊢ iprop((ow c O -∗ WP (k ⟨⟩) Kt) -∗ WP (.op (.semSignal (n, .tc) s x) k) Kt) := by
  subst hn; subst hx; subst hs
  unfold ow
  iintro ⟨#Hrec, ⟨%W, HO⟩, Ht, H0, H1, #Hr0, #Hr1⟩ Hk
  iapply (Rounds.wp_signal 𝒱₀ ER (Rd m) (c : Thread nD τ) none (dst := (pr c j : Thread nD τ)) (sem := barS) (r := 0) (d := j) (κ := K (barCell (pr c j)))
      (by rw [duties_bar]; exact Finset.mem_univ _) (amount_bar m (pr c j) j) () O hO) $$ [HO Ht H0 H1]
  · isplitr; · iapply (inv_at m K (bar_mem (pr c j))); iexact Hrec
    isplitl [HO]; · iexact HO
    isplitl [Ht]; · iexact Ht
    isplitl [H0 H1]
    · rw [payload_bar]; unfold barPay; rw [pr_rev]
      isplitl [H0]; · iexact H0
      isplitl [H1]; · iexact H1
      isplitr; · iexact Hr0
      iexact Hr1
    · iapply (reached_bar m K (pr c j)); iexact Hrec
  iintro HO
  iapply Hk
  iexists _; iexact HO

theorem w_barWait {α : Type} {k : PUnit → Prog (TpuEff nD τ sig (Elt F) Λ₀ .tc) α} {Kt : α → sProp 𝕄}
    (x : ℤ) (hx : x = 3) (s : Sem sig) (hs : s = barS) :
    iprop(records m K ∗ levAts L lv ∗ ow c (o6 c) ∗ cred (tallyAt (barCell c) () 3) ∗ atPos ER (barCell c) 0 ∅ 0)
      ⊢ iprop(((ow c (o6 c) ∗ semVal (barCell c) 0 ∗ pslot c 0 0 ∗ pslot c 0 1 ∗ pslot c 1 0 ∗ pslot c 1 1 ∗ pslot c 2 0 ∗ pslot c 2 1)
          -∗ WP (k ⟨⟩) Kt) -∗ WP (.op (.semWait s x) k) Kt) := by
  subst hx; subst hs
  unfold ow
  iintro ⟨#Hrec, #Hlev, ⟨%W, HO⟩, Hc, Hat⟩ Hk
  iapply (Rounds.wp_wait_rest_token 𝒱₀ ER (Rd m) (c : Thread nD τ) none (κ := K (barCell c))
      (wpE_semWait_eq 𝒱₀ (c : Thread nD τ) none Set.univ) (Set.mem_univ _) () (O := o6 c) (W := W) (R := 0) (m := 0) (T := ∅)
      ((Nat.zero_add 3).trans (expect_bar m c).symm)) $$ [Hc HO Hat]
  · isplitr; · iapply (inv_at m K (bar_mem c)); iexact Hrec
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  unfold barPay
  icases Hp with ⟨⟨Ha0, Ha1, #Hra0, #Hra1⟩, ⟨Hb0, Hb1, #Hrb0, #Hrb1⟩, ⟨Hc0, Hc1, #Hrc0, #Hrc1⟩⟩
  imod (Rounds.cell_close ER (Rd m) (g := barCell c) (Set.mem_univ (K (barCell c))) id (duties_later m (barCell c))) $$ [Hat] with Hb
  · isplitr; · iapply (inv_at m K (bar_mem c)); iexact Hrec
    iexact Hat
  iapply Hk
  unfold pslot
  isplitl [HO]; · iexists _; iexact HO
  isplitl [Hb]; · iexact Hb
  isplitl [Hc0]; · isplitl [Hc0]; · iexact Hc0
                   iexact Hrc0
  isplitl [Hc1]; · isplitl [Hc1]; · iexact Hc1
                   iexact Hrc1
  isplitl [Hb0]; · isplitl [Hb0]; · iexact Hb0
                   iexact Hrb0
  isplitl [Hb1]; · isplitl [Hb1]; · iexact Hb1
                   iexact Hrb1
  isplitl [Ha0]; · isplitl [Ha0]; · iexact Ha0
                   iexact Hra0
  isplitl [Ha1]; · iexact Ha1
  iexact Hra1

/-- What a copy leaves in the peer's slot: the sender's contents there. -/
theorem landed_eq (b : Fin 2) (c' : Dev nD) (fd : (cc0_scratch0 : Ref sig .tc).ty.Contents (Elt F)) :
    (slotPts c' c b fullShare ((slotM c b).view.write (Elt F) fd ((slotM c b).view.read (Elt F) (G m)) Finset.univ) : sProp 𝕄) = slotPts c' c b fullShare (G m) := by
  refine slotPts_congr _ _ _ _ _ _ fun i h0 h1 => ?_
  rw [View.write_read_eq_piecewise]
  exact Finset.piecewise_eq_of_mem _ _ _ ((mem_slot c b i).mpr ⟨h0, h1⟩)

theorem w_send {α : Type} {k : PUnit → Prog (TpuEff nD τ sig (Elt F) Λ₀ .tc) α} {Kt : α → sProp 𝕄}
    (j : Fin 3) (b : Fin 2) (n : Dev nD) (hn : n = pr c j) (O O' : CellTallies nD τ sig Unit)
    (hO : O' = O + tallyAt (recvCell (pr c j) c b) () N)
    (src : Memref sig .tc .vmem S128x256 .bf16) (hsrc : src = slotM c b)
    (dst : Memref sig .tc .vmem S128x256 .bf16) (hdst : dst = slotM c b)
    (s : DmaSem sig) (hs : s = sS j b) (r : DmaSem sig) (hr : r = rS c b)
    {hsc : dst.view.ref.isScScratch = false} {h1 : src.view.WordExact} {h2 : dst.view.WordExact}
    {h3 : DmaTarget.Typed .vmem (.dma r) (.remote (Dev.tc n) dst (.dma s) hsc)} :
    iprop(records m K ∗ slotPts c c b (qs j) (G m) ∗ pslot c j b ∗ ow c O' ∗ dutyTok ER (sendCell c j b) 0 0
        ∗ reached ER (sendCell c j b) 0 ∗ dutyTok ER (recvCell (pr c j) c b) 0 0)
      ⊢ iprop(((cred (tallyAt (sendCell c j b) () N) ∗ ow c O) -∗ WP (k ⟨⟩) Kt)
          -∗ WP (.op (.enqueueDma src (.remote (Dev.tc n) dst (.dma s) hsc) (.dma r) h1 h2 h3) k) Kt) := by
  subst hn; subst hsrc; subst hdst; subst hs; subst hr
  unfold ow pslot slotPts
  iintro ⟨#Hrec, Hs, ⟨⟨%fd, Hd⟩, #Hrd⟩, ⟨%W, HO⟩, Ht, #Hrs, Htd⟩ Hk
  iapply (Rounds.wp_send_pointsTo 𝒱₀ ER (Rd m) (c : Thread nD τ) none (c' := (pr c j : Thread nD τ)) (src := slotM c b) (dst := slotM c b)
      (sS := .dma (sS j b)) (sem := .dma (rS c b)) (q := qs j) (fs := G m) (κ₁ := K (sendCell c j b)) (κ₂ := K (recvCell (pr c j) c b))
      (r₁ := 0) (r₂ := 0) (d₁ := 0) (d₂ := 0) (fd := fd)
      (by rw [duties_send]; exact Finset.mem_singleton_self _) (by rw [duties_recv m _ _ _ (pr_ne c j).symm]; exact Finset.mem_singleton_self _)
      () () N (N_eq c b) (amount_send m c j b 0) (amount_recv m (pr c j) c b 0) O hO (W := W)
      (by rw [payload_send]; exact BI.Entails.refl _)
      (by rw [payload_recv]; exact Entails.of_eq (landed_eq m c b (pr c j) fd))) $$ [Hs Hd HO Ht Htd]
  · isplitr; · iapply (inv_at m K (send_mem c j b)); iexact Hrec
    isplitr; · iapply (inv_at m K (recv_mem (pr c j) c b)); iexact Hrec
    isplitl [Hs]; · iexact Hs
    isplitl [Hd]; · iexact Hd
    isplitl [HO]; · iexact HO
    isplitl [Ht]; · iexact Ht
    isplitr; · iexact Hrs
    isplitl [Htd]; · iexact Htd
    iexact Hrd
  iintro ⟨Hc, HO⟩
  iapply Hk
  isplitl [Hc]; · iexact Hc
  iexists _; iexact HO

theorem w_sendWait {α : Type} {k : PUnit → Prog (TpuEff nD τ sig (Elt F) Λ₀ .tc) α} {Kt : α → sProp 𝕄}
    (j : Fin 3) (b : Fin 2) (src dst : Memref sig .tc .vmem S128x256 .bf16) (hdst : dst = slotM c b)
    (s : DmaSem sig) (hs : s = sS j b) {h1 : src.view.WordExact} {h2 : dst.view.WordExact} :
    iprop(records m K ∗ ow c 0 ∗ cred (tallyAt (sendCell c j b) () N) ∗ atPos ER (sendCell c j b) 0 ∅ 0)
      ⊢ iprop(((ow c 0 ∗ slotPts c c b (qs j) (G m) ∗ semVal (sendCell c j b) 0) -∗ WP (k ⟨⟩) Kt)
          -∗ WP (.op (.waitDma2 s src dst h1 h2) k) Kt) := by
  subst hdst; subst hs
  unfold ow
  iintro ⟨#Hrec, ⟨%W, HO⟩, Hc, Hat⟩ Hk
  iapply (Rounds.wp_wait_rest_token 𝒱₀ ER (Rd m) (c : Thread nD τ) none (κ := K (sendCell c j b))
      (wpE_waitDma2_eq (src := src) (dst := slotM c b) 𝒱₀ (c : Thread nD τ) none Set.univ) (Set.mem_univ _) () (O := 0) (W := W) (R := 0) (m := 0) (T := ∅)
      ((Nat.zero_add _).trans ((N_eq c b).trans (expect_send m c j b).symm))) $$ [Hc HO Hat]
  · isplitr; · iapply (inv_at m K (send_mem c j b)); iexact Hrec
    isplitl [Hc]; · rw [N_eq]; iexact Hc
    isplitl [HO]; · iexact HO
    isplitr; · rw [MayWait_zero]; iempintro
    iexact Hat
  iintro ⟨HO, Hat, -, Hpay⟩
  ihave Hp := (Entails.of_eq (rest_send m c j b)) $$ Hpay
  imod (Rounds.cell_close ER (Rd m) (g := sendCell c j b) (Set.mem_univ (K (sendCell c j b))) id (duties_later m (sendCell c j b))) $$ [Hat] with Hb
  · isplitr; · iapply (inv_at m K (send_mem c j b)); iexact Hrec
    iexact Hat
  iapply Hk
  isplitl [HO]; · iexists _; iexact HO
  isplitl [Hp]; · unfold sendPay; iexact Hp
  iexact Hb

/-- The share a device holds a slot at once every copy has landed. -/
def rq (c o : Dev nD) : PosShare TreeShare := if o = c then qk else fullShare

/-- What a device waits on a slot with: for its own slot, the slot itself. -/
def slotIn (c o : Dev nD) (b : Fin 2) : sProp 𝕄 := iprop(recvIn c o b ∗ if o = c then slotPts c o b qk (G m) else emp)

theorem w_recvWait {α : Type} (o : Dev nD) (b : Fin 2) (C : Prop) [Decidable C] (hC : C = (o ≠ c))
    (rest : Prog (TpuEff nD τ sig (Elt F) Λ₀ .tc) α) (p : C → Prog (TpuEff nD τ sig (Elt F) Λ₀ .tc) α)
    (hp : ∀ h, ∃ h1 h2, p h = .op (.waitDma2 (rS o b) (slotM o b) (slotM o b) h1 h2) (fun _ => rest))
    {Kt : α → sProp 𝕄} :
    iprop(records m K ∗ ow c 0 ∗ slotIn m c o b)
      ⊢ iprop(((ow c 0 ∗ slotPts c o b (rq c o) (G m) ∗ semVal (recvCell c o b) 0) -∗ WP rest Kt)
          -∗ WP (dite C p (fun _ => rest)) Kt) := by
  by_cases ho : o = c
  · subst ho
    have hC' : ¬C := by rw [hC]; exact fun h => h rfl
    rw [dif_neg hC']
    unfold slotIn recvIn rq
    rw [if_pos rfl, if_pos rfl, if_pos rfl]
    iintro ⟨#Hrec, HO, ⟨Hat, -⟩, Hs⟩ Hk
    imod (Rounds.cell_close ER (Rd m) (g := recvCell o o b) (Set.mem_univ (K (recvCell o o b))) id (duties_own m o b)) $$ [Hat] with Hb
    · isplitr; · iapply (inv_at m K (recv_mem o o b)); iexact Hrec
      iexact Hat
    iapply Hk
    isplitl [HO]; · iexact HO
    isplitl [Hs] <;> iassumption
  · have hC' : C := by rw [hC]; exact ho
    obtain ⟨h1, h2, hp⟩ := hp hC'
    rw [dif_pos hC', hp]
    unfold slotIn recvIn rq ow
    rw [if_neg ho, if_neg ho, if_neg ho]
    iintro ⟨#Hrec, ⟨%W, HO⟩, ⟨Hat, Hc⟩, -⟩ Hk
    iapply (Rounds.wp_wait_rest_token 𝒱₀ ER (Rd m) (c : Thread nD τ) none (κ := K (recvCell c o b))
        (wpE_waitDma2_eq (src := slotM o b) (dst := slotM o b) 𝒱₀ (c : Thread nD τ) none Set.univ) (Set.mem_univ _) () (O := 0) (W := W) (R := 0) (m := 0) (T := ∅)
        ((Nat.zero_add _).trans ((N_eq o b).trans (expect_recv m c o b ho).symm))) $$ [Hc HO Hat]
    · isplitr; · iapply (inv_at m K (recv_mem c o b)); iexact Hrec
      isplitl [Hc]; · rw [N_eq]; iexact Hc
      isplitl [HO]; · iexact HO
      isplitr; · rw [MayWait_zero]; iempintro
      iexact Hat
    iintro ⟨HO, Hat, -, Hpay⟩
    ihave Hp := (Entails.of_eq (rest_recv m c o b ho)) $$ Hpay
    imod (Rounds.cell_close ER (Rd m) (g := recvCell c o b) (Set.mem_univ (K (recvCell c o b))) id (duties_later m (recvCell c o b))) $$ [Hat] with Hb
    · isplitr; · iapply (inv_at m K (recv_mem c o b)); iexact Hrec
      iexact Hat
    iapply Hk
    isplitl [HO]; · iexists _; iexact HO
    isplitl [Hp]; · unfold recvPay; iexact Hp
    iexact Hb

end Steps

end Cert.Exchange
-- ==== Proof.Slots.lean ====
/- The slots of the exchange buffer: what the head stores leave, what a chunk load reads, the whole buffer as its slots. -/
module

public import proofs.«01_k».proof.Proof.Wraps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Storing the heads of the own block -/

theorem head_inb (c : Dev nD) (b : Fin 2) (h : Fin 4) : ∀ a, (![c.val, b.val, 0, 64 * h.val] : Fin 4 → ℕ) a + S1x1x128x64.size a ≤ S4x2x128x256.size a := by
  revert c b h; decide

/-- The buffer after head `h`'s block is stored in device `c`'s batch `b`. -/
def hwr (c : Dev nD) (b : Fin 2) (h : Fin 4) (w : FVec F S1x1x128x64 .bf16) (f : (cc0_scratch0 : Ref sig .tc).ty.Contents (Elt F)) :
    (cc0_scratch0 : Ref sig .tc).ty.Contents (Elt F) :=
  (cM.access (Rect.unit (s := S4x2x128x256) ![c.val, b.val, 0, 64 * h.val] S1x1x128x64.size (head_inb c b h))).write (Elt F) f w Finset.univ

theorem hwr_at (c : Dev nD) (b : Fin 2) (h : Fin 4) (w : FVec F S1x1x128x64 .bf16) (f : (cc0_scratch0 : Ref sig .tc).ty.Contents (Elt F))
    (i : (cc0_scratch0 : Ref sig .tc).ty.Idx) (h0 : (i 0).val = c.val) (h1 : (i 1).val = b.val) :
    hwr c b h w f i = if (i 3).val / 64 = h.val then w (hix (i 2) ⟨(i 3).val % 64, Nat.mod_lt _ (by decide)⟩) else f i := by
  have h2 : (i 2).val < 128 := (i 2).isLt
  have h3 : (i 3).val < 256 := (i 3).isLt
  have e : hwr c b h w f = updateSlice (s := S4x2x128x256) (u := S1x1x128x64) f w ![c.val, b.val, 0, 64 * h.val] ⟨rfl, head_inb c b h⟩ :=
    View.write_whole_slice_unit cc0_scratch0 _ _ _ f w
  rw [e]
  unfold updateSlice
  split
  · next hin =>
    have a3 := hin 3
    have a3' : 64 * h.val ≤ (i 3).val ∧ (i 3).val < 64 * h.val + 64 := a3
    rw [if_pos (by omega)]
    congr 1
    funext a
    fin_cases a
    · apply Fin.ext; show (i 0).val - c.val = 0; omega
    · apply Fin.ext; show (i 1).val - b.val = 0; omega
    · apply Fin.ext; show (i 2).val - 0 = (i 2).val; omega
    · apply Fin.ext; show (i 3).val - 64 * h.val = (i 3).val % 64; omega
  · next hin =>
    rw [if_neg]
    intro hh
    apply hin
    intro a
    fin_cases a
    · show c.val ≤ (i 0).val ∧ (i 0).val < c.val + 1; omega
    · show b.val ≤ (i 1).val ∧ (i 1).val < b.val + 1; omega
    · show 0 ≤ (i 2).val ∧ (i 2).val < 0 + 128; omega
    · show 64 * h.val ≤ (i 3).val ∧ (i 3).val < 64 * h.val + 64; omega

/-- After the four heads are stored the own slot holds what every device will see there. -/
theorem stored (c : Dev nD) (b : Fin 2) (f : (cc0_scratch0 : Ref sig .tc).ty.Contents (Elt F)) :
    (slotPts c c b fullShare (hwr c b 3 (pc (stQ m c) (stK m c) b 3) (hwr c b 2 (pc (stQ m c) (stK m c) b 2)
      (hwr c b 1 (pc (stQ m c) (stK m c) b 1) (hwr c b 0 (pc (stQ m c) (stK m c) b 0) f)))) : sProp 𝕄) = slotPts c c b fullShare (G m) := by
  refine slotPts_congr _ _ _ _ _ _ fun i h0 h1 => ?_
  have h3 : (i 3).val < 256 := (i 3).isLt
  rw [hwr_at _ _ _ _ _ i h0 h1, hwr_at _ _ _ _ _ i h0 h1, hwr_at _ _ _ _ _ i h0 h1, hwr_at _ _ _ _ _ i h0 h1]
  have e0 : i 0 = c := Fin.ext h0
  have e1 : i 1 = b := Fin.ext h1
  unfold G
  rw [e0, e1]
  have hc : (i 3).val / 64 = 3 ∨ (i 3).val / 64 = 2 ∨ (i 3).val / 64 = 1 ∨ (i 3).val / 64 = 0 := by omega
  have key : ∀ h : Fin 4, (i 3).val / 64 = h.val →
      pc (stQ m c) (stK m c) b h (hix (i 2) ⟨(i 3).val % 64, Nat.mod_lt _ (by decide)⟩)
        = pc (stQ m c) (stK m c) b ⟨(i 3).val / 64, by omega⟩ (hix (i 2) ⟨(i 3).val % 64, Nat.mod_lt _ (by decide)⟩) := fun h hh =>
    congrArg (fun h => pc (stQ m c) (stK m c) b h (hix (i 2) ⟨(i 3).val % 64, Nat.mod_lt _ (by decide)⟩)) (Fin.ext hh.symm)
  have n32 : ¬ ((2 : ℕ) = (3 : Fin 4).val) := by decide
  have n13 : ¬ ((1 : ℕ) = (3 : Fin 4).val) := by decide
  have n12 : ¬ ((1 : ℕ) = (2 : Fin 4).val) := by decide
  have n03 : ¬ ((0 : ℕ) = (3 : Fin 4).val) := by decide
  have n02 : ¬ ((0 : ℕ) = (2 : Fin 4).val) := by decide
  have n01 : ¬ ((0 : ℕ) = (1 : Fin 4).val) := by decide
  rcases hc with hc | hc | hc | hc
  · exact (if_pos hc).trans (key 3 hc)
  · exact (if_neg (hc ▸ n32)).trans ((if_pos hc).trans (key 2 hc))
  · exact (if_neg (hc ▸ n13)).trans ((if_neg (hc ▸ n12)).trans ((if_pos hc).trans (key 1 hc)))
  · exact (if_neg (hc ▸ n03)).trans ((if_neg (hc ▸ n02)).trans ((if_neg (hc ▸ n01)).trans ((if_pos hc).trans (key 0 hc))))

/-! ## Loading a device's block -/

theorem chunk_inb (o : Dev nD) : ∀ a, (![o.val, 0, 0, 0] : Fin 4 → ℕ) a + S1x2x128x256.size a ≤ S4x2x128x256.size a := by
  revert o; decide
/-- Both batches of device `o`'s block. -/
def chunk (o : Dev nD) : FVec F S1x2x128x256 .bf16 :=
  cM.view.readAt (Elt F) (Rect.unit (s := S4x2x128x256) ![o.val, 0, 0, 0] S1x2x128x256.size (chunk_inb o)).toLoadRect (G m)

/-- What every device leaves in its result block. -/
def res (W : (cc0_stg2_0 : Ref sig .tc).ty.Contents (Elt F)) : FVec F S2x128x512 .bf16 :=
  k0_pay19 (k0_pay10 W) (k0_pay18 (k0_pay10 W) (k0_pay17 (k0_pay10 W) (chunk m 0) (chunk m 1)) (chunk m 2)) (chunk m 3)

section Steps

variable (c : Dev nD)

local notation "WP" => wp frame (wpE (defs₀ (F := F)) 𝒱₀ (c : Thread nD τ) none) Set.univ

theorem w_ownLoad {α : Type} (b : Fin 2) (h : Fin 4) (off : Fin 4 → ℕ) (hoff : off = ![c.val, b.val, 0, 64 * h.val])
    (inb : ∀ a, off a + S1x1x128x64.size a ≤ S4x2x128x256.size a)
    {hl : cM.view.LoadsAt (Rect.unit (s := S4x2x128x256) off S1x1x128x64.size inb).toLoadRect}
    {k : Vec F S1x1x128x64 .bf16 → Prog (TpuEff nD τ sig (Elt F) Λ₀ .tc) α} {Kt : α → sProp 𝕄}
    (f : (cc0_scratch0 : Ref sig .tc).ty.Contents (Elt F)) :
    slotPts c c b fullShare f
      ⊢ iprop((slotPts c c b fullShare f -∗ WP (k (cM.view.readAt (Elt F) (Rect.unit (s := S4x2x128x256) off S1x1x128x64.size inb).toLoadRect f)) Kt)
          -∗ WP (.op (.load cM (Rect.unit (s := S4x2x128x256) off S1x1x128x64.size inb).toLoadRect hl) k) Kt) := by
  subst hoff
  unfold slotPts
  iintro Hs Hk
  iapply (wp_load 𝒱₀ (c : Thread nD τ) none Set.univ (m := cM) (S := (slotM c b).view.set) (by
    intro i hi
    obtain ⟨x, hx, rfl⟩ := Finset.mem_map.mp hi
    have hx' := Rect.mem_set_unit.mp hx
    have a0 := hx' 0
    have a1 := hx' 1
    have a0' : c.val ≤ (x 0).val ∧ (x 0).val < c.val + 1 := a0
    have a1' : b.val ≤ (x 1).val ∧ (x 1).val < b.val + 1 := a1
    exact (mem_slot c b _).mpr ⟨by show (x 0).val = c.val; omega, by show (x 1).val = b.val; omega⟩)) $$ Hs
  iintro Hs
  iapply Hk
  iexact Hs

theorem w_ownStore {α : Type} (b : Fin 2) (h : Fin 4) (off : Fin 4 → ℕ) (hoff : off = ![c.val, b.val, 0, 64 * h.val])
    (inb : ∀ a, off a + S1x1x128x64.size a ≤ S4x2x128x256.size a) (w : FVec F S1x1x128x64 .bf16)
    {hx : (cM.access (Rect.unit (s := S4x2x128x256) off S1x1x128x64.size inb)).Stores Finset.univ} {hm}
    {k : PUnit → Prog (TpuEff nD τ sig (Elt F) Λ₀ .tc) α} {Kt : α → sProp 𝕄}
    (f : (cc0_scratch0 : Ref sig .tc).ty.Contents (Elt F)) :
    slotPts c c b fullShare f
      ⊢ iprop((slotPts c c b fullShare (hwr c b h w f) -∗ WP (k ⟨⟩) Kt)
          -∗ WP (.op (.store cM (Rect.unit (s := S4x2x128x256) off S1x1x128x64.size inb) w Finset.univ hx hm) k) Kt) := by
  subst hoff
  unfold slotPts
  iintro Hs Hk
  iapply (wp_store 𝒱₀ (c : Thread nD τ) none Set.univ (m := cM) (r := Rect.unit (s := S4x2x128x256) ![c.val, b.val, 0, 64 * h.val] S1x1x128x64.size inb)
    (Mk := Finset.univ) (S := (slotM c b).view.set) (by
    intro i hi
    obtain ⟨x, hx, rfl⟩ := Finset.mem_map.mp hi
    have l0 : (x 0).val < 1 := (x 0).isLt
    have l1 : (x 1).val < 1 := (x 1).isLt
    refine (mem_slot c b _).mpr ⟨?_, ?_⟩
    · show c.val + 1 * (x 0).val = c.val; omega
    · show b.val + 1 * (x 1).val = b.val; omega)) $$ Hs
  iintro Hs
  iapply Hk
  iexact Hs

theorem w_chunk {α : Type} (o : Dev nD) (q : PosShare TreeShare) (off : Fin 4 → ℕ) (hoff : off = ![o.val, 0, 0, 0])
    (inb : ∀ a, off a + S1x2x128x256.size a ≤ S4x2x128x256.size a)
    {hl : cM.view.LoadsAt (Rect.unit (s := S4x2x128x256) off S1x2x128x256.size inb).toLoadRect}
    {k : Vec F S1x2x128x256 .bf16 → Prog (TpuEff nD τ sig (Elt F) Λ₀ .tc) α} {Kt : α → sProp 𝕄} :
    iprop(slotPts c o 0 q (G m) ∗ slotPts c o 1 q (G m))
      ⊢ iprop(((slotPts c o 0 q (G m) ∗ slotPts c o 1 q (G m)) -∗ WP (k (chunk m o)) Kt)
          -∗ WP (.op (.load cM (Rect.unit (s := S4x2x128x256) off S1x2x128x256.size inb).toLoadRect hl) k) Kt) := by
  subst hoff
  have hd : Disjoint (slotM o 0).view.set (slotM o 1).view.set := by
    rw [Finset.disjoint_left]
    intro i hi hi'
    have a := ((mem_slot o 0 i).mp hi).2
    have b := ((mem_slot o 1 i).mp hi').2
    rw [a] at b; exact absurd b (by decide)
  have hu := pointsTo_union (Ix := Unit) (Name := ℕ) (U := UU) (Lvl := ℕ) (Val := Elt F) (ℓ := cM.view.loc (c : Thread nD τ)) (q := q) (f := G m) hd
  unfold slotPts
  iintro Hs Hk
  ihave Hs := hu.2 $$ Hs
  iapply (wp_load 𝒱₀ (c : Thread nD τ) none Set.univ (m := cM) (S := (slotM o 0).view.set ∪ (slotM o 1).view.set) (by
    intro i hi
    obtain ⟨x, hx, rfl⟩ := Finset.mem_map.mp hi
    have hx' := Rect.mem_set_unit.mp hx
    have a0' : o.val ≤ (x 0).val ∧ (x 0).val < o.val + 1 := hx' 0
    have a1' : (x 1).val < 2 := (x 1).isLt
    have e0 : (x 0).val = o.val := by omega
    rcases (show (x 1).val = 0 ∨ (x 1).val = 1 by omega) with e1 | e1
    · exact Finset.mem_union_left _ ((mem_slot o 0 _).mpr ⟨e0, e1⟩)
    · exact Finset.mem_union_right _ ((mem_slot o 1 _).mpr ⟨e0, e1⟩))) $$ Hs
  iintro Hs
  ihave Hs := hu.1 $$ Hs
  iapply Hk
  iexact Hs

end Steps

/-! ## The whole buffer as its slots -/

theorem scratch_slots (c : Dev nD) (q : PosShare TreeShare) (f : (cc0_scratch0 : Ref sig .tc).ty.Contents (Elt F)) :
    ((((c : Thread nD τ).loc cc0_scratch0) ↦{q} f : sProp 𝕄)) = bigSep Finset.univ (fun x : Dev nD × Fin 2 => slotPts c x.1 x.2 q f) := by
  have h := pointsTo_biUnion (Ix := Unit) (Name := ℕ) (U := UU) (Lvl := ℕ) (Val := Elt F) (ℓ := cM.view.loc (c : Thread nD τ)) (q := q) (f := f)
    (Finset.univ : Finset (Dev nD × Fin 2)) (fun x => (slotM x.1 x.2).view.set) (fun x _ y _ hxy => by
      rw [Finset.disjoint_left]
      intro i hi hi'
      have a := (mem_slot x.1 x.2 i).mp hi
      have b := (mem_slot y.1 y.2 i).mp hi'
      exact hxy (Prod.ext (Fin.ext (a.1.symm.trans b.1)) (Fin.ext (a.2.symm.trans b.2))))
  have hu : (Finset.univ : Finset (Dev nD × Fin 2)).biUnion (fun x => (slotM x.1 x.2).view.set) = (Finset.univ : Finset (cc0_scratch0 : Ref sig .tc).ty.Idx) := by
    refine Finset.eq_univ_iff_forall.mpr fun i => Finset.mem_biUnion.mpr ⟨(i 0, i 1), Finset.mem_univ _, (mem_slot (i 0) (i 1) i).mpr ⟨rfl, rfl⟩⟩
  exact (congrArg (fun S => (cM.view.loc (c : Thread nD τ) ↦[S]{q} f : sProp 𝕄)) hu).symm.trans h

/-- Over the devices, starting from `c`. -/
theorem around (c : Dev nD) (Φ : Dev nD → sProp 𝕄) : bigSep Finset.univ Φ = iprop(Φ c ∗ Φ (pr c 0) ∗ Φ (pr c 1) ∗ Φ (pr c 2)) :=
  bigSep_univ_eq_bigSepL [c, pr c 0, pr c 1, pr c 2] (by revert c; decide) (by revert c; decide) Φ

/-- Over the devices in order. -/
theorem inOrder (Φ : Dev nD → sProp 𝕄) : bigSep Finset.univ Φ = iprop(Φ 0 ∗ Φ 1 ∗ Φ 2 ∗ Φ 3) :=
  bigSep_univ_eq_bigSepL [0, 1, 2, 3] (by decide) (by decide) Φ

theorem twoB (Φ : Dev nD × Fin 2 → sProp 𝕄) :
    bigSep Finset.univ Φ = iprop(bigSep Finset.univ (fun o : Dev nD => Φ (o, 0)) ∗ bigSep Finset.univ (fun o : Dev nD => Φ (o, 1))) := by
  rw [bigSep_univ_prod]
  exact (bigSep_congr fun o _ => bigSep_fin_two (fun b => Φ (o, b))).trans (bigSep_sep Finset.univ (fun o => Φ (o, 0)) (fun o => Φ (o, 1)))

end Cert.Exchange
-- ==== Proof.Body.lean ====
/- The kernel's body on one device: its parts in order, and the whole. -/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem dev1_eq (c : Dev nD) : (⟨k0_dev1 c, k0_dev1_lt c⟩ : Dev nD) = pr c 0 := Fin.ext (k0_dev1_eq c)
theorem dev2_eq (c : Dev nD) : (⟨k0_dev2 c, k0_dev2_lt c⟩ : Dev nD) = pr c 1 := Fin.ext (k0_dev2_eq c)
theorem dev3_eq (c : Dev nD) : (⟨k0_dev3 c, k0_dev3_lt c⟩ : Dev nD) = pr c 2 := Fin.ext (k0_dev3_eq c)
theorem dev4_eq (c : Dev nD) : (⟨k0_dev4 c, k0_dev4_lt c⟩ : Dev nD) = pr c 1 := Fin.ext (k0_dev4_eq c)
theorem dev5_eq (c : Dev nD) : (⟨k0_dev5 c, k0_dev5_lt c⟩ : Dev nD) = pr c 0 := Fin.ext (k0_dev5_eq c)
theorem dev6_eq (c : Dev nD) : (⟨k0_dev6 c, k0_dev6_lt c⟩ : Dev nD) = pr c 2 := Fin.ext (k0_dev6_eq c)
theorem dev7_eq (c : Dev nD) : (⟨k0_dev7 c, k0_dev7_lt c⟩ : Dev nD) = pr c 1 := Fin.ext (k0_dev7_eq c)
theorem dev8_eq (c : Dev nD) : (⟨k0_dev8 c, k0_dev8_lt c⟩ : Dev nD) = pr c 0 := Fin.ext (k0_dev8_eq c)
theorem dev9_eq (c : Dev nD) : (⟨k0_dev9 c, k0_dev9_lt c⟩ : Dev nD) = pr c 2 := Fin.ext (k0_dev9_eq c)

/-- The printed slot at an offset is the slot. -/
theorem slot_off (c : Dev nD) (b : Fin 2) (off : Fin 4 → ℕ) (h : off = ![c.val, b.val, 0, 0]) (inb : ∀ a, off a + S1x1x128x256.size a ≤ S4x2x128x256.size a) :
    (cM.slice (Rect.unit (s := S4x2x128x256) off S1x1x128x256.size inb) (fun _ => rfl)).squeeze S128x256 squeezes_S1x1x128x256_S128x256 = slotM c b := by
  subst h; rfl

theorem rS_inb (c : Dev nD) (b : Fin 2) : ∀ a, (![c.val, b.val] : Fin 2 → ℕ) a + S1x1.size a ≤ S4x2.size a := by revert c b; decide
theorem rS_at (c : Dev nD) (b : Fin 2) : ((cc0_scratch2.slice (Rect.unit (s := S4x2) ![c.val, b.val] S1x1.size (rS_inb c b))).squeeze S_ squeezes_S1x1_S_).sem = rS c b := by
  revert c b; decide
/-- The printed receive semaphore at an offset is the slot's. -/
theorem rS_off (c : Dev nD) (b : Fin 2) (off : Fin 2 → ℕ) (h : off = ![c.val, b.val]) (inb : ∀ a, off a + S1x1.size a ≤ S4x2.size a) :
    ((cc0_scratch2.slice (Rect.unit (s := S4x2) off S1x1.size inb)).squeeze S_ squeezes_S1x1_S_).sem = rS c b := by
  subst h; exact rS_at c b

/-- A device's word, as the kernel computes its place. -/
abbrev wd (c : Dev nD) : BitVec 32 := Scalar.remsi (Scalar.divsi (Dev.word c) 1#32) 4#32

/-- The staged windows' buffers on device `c`. -/
abbrev qPts (c : Dev nD) : sProp 𝕄 := (qM.view.loc (c : Thread nD τ)) ↦{fullShare} stQ m c
abbrev kPts (c : Dev nD) : sProp 𝕄 := (kvM.view.loc (c : Thread nD τ)) ↦{fullShare} stK m c
abbrev wPts (c : Dev nD) : sProp 𝕄 := (woM.view.loc (c : Thread nD τ)) ↦{fullShare} stW m c
abbrev oPts (c : Dev nD) (f : (cc0_stg3_0 : Ref sig .tc).ty.Contents (Elt F)) : sProp 𝕄 := (oM.view.loc (c : Thread nD τ)) ↦{fullShare} f

/-- The printed conditions: whether a slot is another device's. -/
theorem cond0 (c : Dev nD) : (Scalar.cmpi .ne (Scalar.extui (Scalar.cmpi .ne (wd c) 0#32) : BitVec 32) 0#32 = 1#1) = ((0 : Dev nD) ≠ c) := propext (by revert c; decide)
theorem cond1 (c : Dev nD) : (Scalar.cmpi .ne (Scalar.extui (Scalar.cmpi .ne (wd c) 1#32) : BitVec 32) 0#32 = 1#1) = ((1 : Dev nD) ≠ c) := propext (by revert c; decide)
theorem cond2 (c : Dev nD) : (Scalar.cmpi .ne (Scalar.extui (Scalar.cmpi .ne (wd c) 2#32) : BitVec 32) 0#32 = 1#1) = ((2 : Dev nD) ≠ c) := propext (by revert c; decide)
theorem cond3 (c : Dev nD) : (Scalar.cmpi .ne (Scalar.extui (Scalar.cmpi .ne (wd c) 3#32) : BitVec 32) 0#32 = 1#1) = ((3 : Dev nD) ≠ c) := propext (by revert c; decide)

/-- What a device holds of a copy it has sent: that the copy will finish, and the position of its send cell. -/
def sendOut (c : Dev nD) (j : Fin 3) (b : Fin 2) : sProp 𝕄 :=
  iprop(cred (tallyAt (sendCell c j b) () N) ∗ atPos ER (sendCell c j b) 0 ∅ 0)
/-- A device's own slot back from a copy that has been read, with the closed send cell. -/
def sendDone (c : Dev nD) (j : Fin 3) (b : Fin 2) : sProp 𝕄 := iprop(slotPts c c b (qs j) (G m) ∗ semVal (sendCell c j b) 0)
/-- A slot that has landed, with the closed receive cell. -/
def slotDone (c o : Dev nD) (b : Fin 2) : sProp 𝕄 := iprop(slotPts c o b (rq c o) (G m) ∗ semVal (recvCell c o b) 0)

theorem stored_eq (c : Dev nD) (b : Fin 2) (f : (cc0_scratch0 : Ref sig .tc).ty.Contents (Elt F)) (w0 w1 w2 w3 : FVec F S1x1x128x64 .bf16)
    (e0 : w0 = pc (stQ m c) (stK m c) b 0) (e1 : w1 = pc (stQ m c) (stK m c) b 1) (e2 : w2 = pc (stQ m c) (stK m c) b 2) (e3 : w3 = pc (stQ m c) (stK m c) b 3) :
    (slotPts c c b fullShare (hwr c b 3 w3 (hwr c b 2 w2 (hwr c b 1 w1 (hwr c b 0 w0 f)))) : sProp 𝕄) = slotPts c c b fullShare (G m) := by
  subst e0; subst e1; subst e2; subst e3; exact stored m c b f

section Parts

variable (K : GSem nD τ sig → ℕ) (c : Dev nD)
variable (h0 : qM.IsWhole) (h1 : kvM.IsWhole) (h2 : woM.IsWhole) (h3 : oM.IsWhole) (h4 : cM.IsWhole)

local notation "WP" => wp frame (wpE (defs₀ (F := F)) 𝒱₀ (c : Thread nD τ) none) Set.univ

theorem w_whole (W : (cc0_stg2_0 : Ref sig .tc).ty.Contents (Elt F)) :
    woM.view.readAt (Elt F) (Rect.unit (s := S1024x512) ![0, 0] S1024x512.size inb_S1024x512_S1024x512_0_0).toLoadRect W = W :=
  Memref.readAt_unit_zero (Elt F) cc0_stg2_0 (by decide) _ W

theorem s_send {α : Type} {k : PUnit → Prog (TpuEff nD τ sig (Elt F) Λ₀ .tc) α} {Kt : α → sProp 𝕄}
    (j : Fin 3) (b : Fin 2) (n : Dev nD) (hn : n = pr c j) (O O' : CellTallies nD τ sig Unit)
    (hO : O' = O + tallyAt (recvCell (pr c j) c b) () N)
    (src : Memref sig .tc .vmem S128x256 .bf16) (hsrc : src = slotM c b)
    (dst : Memref sig .tc .vmem S128x256 .bf16) (hdst : dst = slotM c b)
    (s : DmaSem sig) (hs : s = sS j b) (r : DmaSem sig) (hr : r = rS c b)
    {hsc : dst.view.ref.isScScratch = false} {e1 : src.view.WordExact} {e2 : dst.view.WordExact}
    {e3 : DmaTarget.Typed .vmem (.dma r) (.remote (Dev.tc n) dst (.dma s) hsc)} :
    iprop(records m K ∗ slotPts c c b (qs j) (G m) ∗ pslot c j b ∗ ow c O' ∗ sendIn c j b)
      ⊢ iprop(((sendOut (F := F) c j b ∗ ow c O) -∗ WP (k ⟨⟩) Kt)
          -∗ WP (.op (.enqueueDma src (.remote (Dev.tc n) dst (.dma s) hsc) (.dma r) e1 e2 e3) k) Kt) := by
  unfold sendIn sendOut
  iintro ⟨#Hrec, Hs, Hp, HO, Hat, Hr, Ht, Ht'⟩ Hk
  iapply (w_send m K c j b n hn O O' hO src hsrc dst hdst s hs r hr) $$ [Hs Hp HO Hr Ht Ht']
  · isplitr; · iexact Hrec
    isplitl [Hs]; · iexact Hs
    isplitl [Hp]; · iexact Hp
    isplitl [HO]; · iexact HO
    isplitl [Ht]; · iexact Ht
    isplitl [Hr]; · iexact Hr
    iexact Ht'
  iintro ⟨Hc, HO⟩
  iapply Hk
  isplitl [Hc Hat]
  · isplitl [Hc] <;> iassumption
  iexact HO

theorem s_sendWait {α : Type} {k : PUnit → Prog (TpuEff nD τ sig (Elt F) Λ₀ .tc) α} {Kt : α → sProp 𝕄}
    (j : Fin 3) (b : Fin 2) (src dst : Memref sig .tc .vmem S128x256 .bf16) (hdst : dst = slotM c b)
    (s : DmaSem sig) (hs : s = sS j b) {e1 : src.view.WordExact} {e2 : dst.view.WordExact} :
    iprop(records m K ∗ ow c 0 ∗ sendOut (F := F) c j b)
      ⊢ iprop(((ow c 0 ∗ sendDone m c j b) -∗ WP (k ⟨⟩) Kt) -∗ WP (.op (.waitDma2 s src dst e1 e2) k) Kt) :=
  w_sendWait m K c j b src dst hdst s hs

theorem s_recvWait {α : Type} (o : Dev nD) (b : Fin 2) (C : Prop) [Decidable C] (hC : C = (o ≠ c))
    (rest : Prog (TpuEff nD τ sig (Elt F) Λ₀ .tc) α) (p : C → Prog (TpuEff nD τ sig (Elt F) Λ₀ .tc) α)
    (hp : ∀ h, ∃ h1 h2, p h = .op (.waitDma2 (rS o b) (slotM o b) (slotM o b) h1 h2) (fun _ => rest))
    {Kt : α → sProp 𝕄} :
    iprop(records m K ∗ ow c 0 ∗ slotIn m c o b)
      ⊢ iprop(((ow c 0 ∗ slotDone m c o b) -∗ WP rest Kt) -∗ WP (dite C p (fun _ => rest)) Kt) :=
  w_recvWait m K c o b C hC rest p hp

theorem s_chunk {α : Type} (o : Dev nD) (off : Fin 4 → ℕ) (hoff : off = ![o.val, 0, 0, 0])
    (inb : ∀ a, off a + S1x2x128x256.size a ≤ S4x2x128x256.size a)
    {hl : cM.view.LoadsAt (Rect.unit (s := S4x2x128x256) off S1x2x128x256.size inb).toLoadRect}
    {k : Vec F S1x2x128x256 .bf16 → Prog (TpuEff nD τ sig (Elt F) Λ₀ .tc) α} {Kt : α → sProp 𝕄} :
    iprop(slotDone m c o 0 ∗ slotDone m c o 1)
      ⊢ iprop(((slotDone m c o 0 ∗ slotDone m c o 1) -∗ WP (k (chunk m o)) Kt)
          -∗ WP (.op (.load cM (Rect.unit (s := S4x2x128x256) off S1x2x128x256.size inb).toLoadRect hl) k) Kt) := by
  unfold slotDone
  iintro ⟨⟨H0, V0⟩, H1, V1⟩ Hk
  iapply (w_chunk m c o (rq c o) off hoff inb) $$ [H0 H1]
  · isplitl [H0] <;> iassumption
  iintro ⟨H0, H1⟩
  iapply Hk
  isplitl [H0 V0]
  · isplitl [H0] <;> iassumption
  isplitl [H1] <;> iassumption

theorem sS_00 : ((cc0_scratch1.slice (Rect.unit (s := S3x2) ![0, 0] S1x1.size inb_S3x2_S1x1_0_0)).squeeze S_ squeezes_S1x1_S_).sem = sS 0 0 := by decide
theorem sS_01 : ((cc0_scratch1.slice (Rect.unit (s := S3x2) ![0, 1] S1x1.size inb_S3x2_S1x1_0_1)).squeeze S_ squeezes_S1x1_S_).sem = sS 0 1 := by decide
theorem sS_10 : ((cc0_scratch1.slice (Rect.unit (s := S3x2) ![1, 0] S1x1.size inb_S3x2_S1x1_1_0)).squeeze S_ squeezes_S1x1_S_).sem = sS 1 0 := by decide
theorem sS_11 : ((cc0_scratch1.slice (Rect.unit (s := S3x2) ![1, 1] S1x1.size inb_S3x2_S1x1_1_1)).squeeze S_ squeezes_S1x1_S_).sem = sS 1 1 := by decide
theorem sS_20 : ((cc0_scratch1.slice (Rect.unit (s := S3x2) ![2, 0] S1x1.size inb_S3x2_S1x1_2_0)).squeeze S_ squeezes_S1x1_S_).sem = sS 2 0 := by decide
theorem sS_21 : ((cc0_scratch1.slice (Rect.unit (s := S3x2) ![2, 1] S1x1.size inb_S3x2_S1x1_2_1)).squeeze S_ squeezes_S1x1_S_).sem = sS 2 1 := by decide

/-- The device tells its three peers that it is ready, giving each the slots of its own buffer meant for that peer's block; then the first loads. -/
theorem part1_run  {Kt : (Σ' (d0 : Dev nD) (v2 : BitVec 32) (v3 : Sems sig S_) (v20 : FVec F S128x128 .f32) (v22 : FVec F S128x64 .bf16) (v24 : FVec F S64x128 .bf16), FVec F S128x128 .f32) → sProp 𝕄} :
    iprop(records m K ∗ ow c (O₀ c) ∗ dutyTok ER (barCell (pr c 0)) 0 0 ∗ dutyTok ER (barCell (pr c 1)) 0 1 ∗ dutyTok ER (barCell (pr c 2)) 0 2 ∗ (∃ f, slotPts (F := F) c (pr c 0) 0 fullShare f) ∗ (∃ f, slotPts (F := F) c (pr c 0) 1 fullShare f) ∗ reached ER (recvCell c (pr c 0) 0) 0 ∗ reached ER (recvCell c (pr c 0) 1) 0 ∗ (∃ f, slotPts (F := F) c (pr c 1) 0 fullShare f) ∗ (∃ f, slotPts (F := F) c (pr c 1) 1 fullShare f) ∗ reached ER (recvCell c (pr c 1) 0) 0 ∗ reached ER (recvCell c (pr c 1) 1) 0 ∗ (∃ f, slotPts (F := F) c (pr c 2) 0 fullShare f) ∗ (∃ f, slotPts (F := F) c (pr c 2) 1 fullShare f) ∗ reached ER (recvCell c (pr c 2) 0) 0 ∗ reached ER (recvCell c (pr c 2) 1) 0 ∗ qPts m c ∗ kPts m c)
      ⊢ iprop(((ow c (o6 c) ∗ qPts m c ∗ kPts m c) -∗ Kt ⟨c, wd c, SemArray.scalar (sig.barrier 0 rfl), k0_pay1 (ldQ (stQ m c) ![0, 0] inb_S256x256_S128x64_0_0) (ldK (stK m c) ![0, 0, 0, 0] inb_S2x8x64x128_S1x1x64x128_0_0_0_0), k0_pay2 (ldQ (stQ m c) ![0, 64] inb_S256x256_S128x64_0_64), k0_pay3 (ldK (stK m c) ![0, 1, 0, 0] inb_S2x8x64x128_S1x1x64x128_0_1_0_0), constant S128x128 .f32 0x00000000#32⟩)
          -∗ WP (k0_part1 qM h0 kvM h1 woM h2 oM h3 cM h4 cc0_scratch1 cc0_scratch2 ) Kt) := by
  rw [k0_part1_eq_skeleton]
  unfold k0_part1_skel
  simp only [semSignalWord, semWaitWord, Prog.lift, Prog.bind_op, Prog.bind_ret, Prog.pure_eq_ret, wp_deviceId]
  iintro ⟨#Hrec, HO, T0, T1, T2, A0, B0, #RA0, #RB0, A1, B1, #RA1, #RB1, A2, B2, #RA2, #RB2, Hq, Hkv⟩ Hk
  iapply (w_signal m K c 0 _ (dev1_eq c) (o8 c) (O₀ c) rfl _ (by decide) _ (by decide)) $$ [HO T0 A0 B0]
  · isplitr; · iexact Hrec
    isplitl [HO]; · iexact HO
    isplitl [T0]; · iexact T0
    isplitl [A0]; · iexact A0
    isplitl [B0]; · iexact B0
    isplitr <;> iassumption
  iintro HO
  iapply (w_signal m K c 1 _ (dev2_eq c) (o7 c) (o8 c) rfl _ (by decide) _ (by decide)) $$ [HO T1 A1 B1]
  · isplitr; · iexact Hrec
    isplitl [HO]; · iexact HO
    isplitl [T1]; · iexact T1
    isplitl [A1]; · iexact A1
    isplitl [B1]; · iexact B1
    isplitr <;> iassumption
  iintro HO
  iapply (w_signal m K c 2 _ (dev3_eq c) (o6 c) (o7 c) rfl _ (by decide) _ (by decide)) $$ [HO T2 A2 B2]
  · isplitr; · iexact Hrec
    isplitl [HO]; · iexact HO
    isplitl [T2]; · iexact T2
    isplitl [A2]; · iexact A2
    isplitl [B2]; · iexact B2
    isplitr <;> iassumption
  iintro HO
  iapply (wp_load 𝒱₀ (c : Thread nD τ) none Set.univ (m := qM) (Finset.subset_univ _)) $$ Hq
  iintro Hq
  iapply (wp_load 𝒱₀ (c : Thread nD τ) none Set.univ (m := kvM) (Finset.subset_univ _)) $$ Hkv
  iintro Hkv
  iapply (wp_load 𝒱₀ (c : Thread nD τ) none Set.univ (m := qM) (Finset.subset_univ _)) $$ Hq
  iintro Hq
  iapply (wp_load 𝒱₀ (c : Thread nD τ) none Set.univ (m := kvM) (Finset.subset_univ _)) $$ Hkv
  iintro Hkv
  rw [wp_ret]
  imodintro
  iapply Hk
  isplitl [HO]; · iexact HO
  isplitl [Hq]; · iexact Hq
  iexact Hkv

/-- The first block of batch 0 is stored in the own slot. -/
theorem part2_run (v2 : BitVec 32) (v20 : FVec F S128x128 .f32) (v22 : FVec F S128x64 .bf16) (v24 : FVec F S64x128 .bf16) (cst : FVec F S128x128 .f32) (f : (cc0_scratch0 : Ref sig .tc).ty.Contents (Elt F)) {Kt : (Σ' (v42 : FVec F S512x128 .bf16), FVec F S128x64 .f32) → sProp 𝕄} :
    iprop(qPts m c ∗ kPts m c ∗ slotPts c c 0 fullShare f)
      ⊢ iprop(((qPts m c ∗ kPts m c ∗ slotPts c c 0 fullShare (hwr c 0 0 (k0_pay5 v20 v22 v24 cst (ldQ (stQ m c) ![0, 128] inb_S256x256_S128x64_0_128) (ldK (stK m c) ![0, 2, 0, 0] inb_S2x8x64x128_S1x1x64x128_0_2_0_0) (ldQ (stQ m c) ![0, 192] inb_S256x256_S128x64_0_192) (ldK (stK m c) ![0, 3, 0, 0] inb_S2x8x64x128_S1x1x64x128_0_3_0_0) (ldK (stK m c) ![0, 4, 0, 0] inb_S2x8x64x128_S1x1x64x128_0_4_0_0)) f)) -∗ Kt ⟨k0_pay4 v20 v22 v24 cst (ldQ (stQ m c) ![0, 128] inb_S256x256_S128x64_0_128) (ldK (stK m c) ![0, 2, 0, 0] inb_S2x8x64x128_S1x1x64x128_0_2_0_0) (ldQ (stQ m c) ![0, 192] inb_S256x256_S128x64_0_192) (ldK (stK m c) ![0, 3, 0, 0] inb_S2x8x64x128_S1x1x64x128_0_3_0_0), k0_pay6 v20 v22 v24 cst (ldQ (stQ m c) ![0, 128] inb_S256x256_S128x64_0_128) (ldK (stK m c) ![0, 2, 0, 0] inb_S2x8x64x128_S1x1x64x128_0_2_0_0) (ldQ (stQ m c) ![0, 192] inb_S256x256_S128x64_0_192) (ldK (stK m c) ![0, 3, 0, 0] inb_S2x8x64x128_S1x1x64x128_0_3_0_0) (ldK (stK m c) ![0, 5, 0, 0] inb_S2x8x64x128_S1x1x64x128_0_5_0_0)⟩)
          -∗ WP (k0_part2 qM h0 kvM h1 woM h2 oM h3 cM h4 cc0_scratch1 cc0_scratch2 c v2 v20 v22 v24 cst) Kt) := by
  rw [k0_part2_eq_skeleton]
  unfold k0_part2_skel
  simp only [semSignalWord, semWaitWord, Prog.lift, Prog.bind_op, Prog.bind_ret, Prog.pure_eq_ret, wp_deviceId]
  iintro ⟨Hq, Hkv, Hs⟩ Hk
  iapply (wp_load 𝒱₀ (c : Thread nD τ) none Set.univ (m := qM) (Finset.subset_univ _)) $$ Hq
  iintro Hq
  iapply (wp_load 𝒱₀ (c : Thread nD τ) none Set.univ (m := kvM) (Finset.subset_univ _)) $$ Hkv
  iintro Hkv
  iapply (wp_load 𝒱₀ (c : Thread nD τ) none Set.univ (m := qM) (Finset.subset_univ _)) $$ Hq
  iintro Hq
  iapply (wp_load 𝒱₀ (c : Thread nD τ) none Set.univ (m := kvM) (Finset.subset_univ _)) $$ Hkv
  iintro Hkv
  iapply (wp_load 𝒱₀ (c : Thread nD τ) none Set.univ (m := kvM) (Finset.subset_univ _)) $$ Hkv
  iintro Hkv
  iapply (w_ownLoad c 0 0 _ (k0_off1_eq c) (k0_off1_inb c) _) $$ Hs
  iintro Hs
  iapply (w_ownStore c 0 0 _ (k0_off1_eq c) (k0_off1_inb c) _ _) $$ Hs
  iintro Hs
  iapply (wp_load 𝒱₀ (c : Thread nD τ) none Set.univ (m := kvM) (Finset.subset_univ _)) $$ Hkv
  iintro Hkv
  rw [wp_ret]
  imodintro
  iapply Hk
  isplitl [Hq]; · iexact Hq
  isplitl [Hkv]; · iexact Hkv
  iexact Hs

/-- The other blocks of batch 0, and the wait for the three peers. -/
theorem part3_run (v2 : BitVec 32) (v3 : Sems sig S_) (hv : v3.sem = barS) (v42 : FVec F S512x128 .bf16) (v55 : FVec F S128x64 .f32) (f : (cc0_scratch0 : Ref sig .tc).ty.Contents (Elt F)) {Kt : (Σ' (v81 : FVec F S1024x512 .bf16), BitVec 32) → sProp 𝕄} :
    iprop(records m K ∗ levAts L lv ∗ ow c (o6 c) ∗ cred (tallyAt (barCell c) () 3) ∗ atPos ER (barCell c) 0 ∅ 0 ∗ kPts m c ∗ wPts m c ∗ slotPts c c 0 fullShare f)
      ⊢ iprop(((ow c (o6 c) ∗ semVal (barCell c) 0 ∗ pslot c 0 0 ∗ pslot c 0 1 ∗ pslot c 1 0 ∗ pslot c 1 1 ∗ pslot c 2 0 ∗ pslot c 2 1 ∗ kPts m c ∗ wPts m c ∗ slotPts c c 0 fullShare (hwr c 0 3 (k0_pay9 v42 (ldK (stK m c) ![0, 7, 0, 0] inb_S2x8x64x128_S1x1x64x128_0_7_0_0)) (hwr c 0 2 (k0_pay8 v42 (ldK (stK m c) ![0, 6, 0, 0] inb_S2x8x64x128_S1x1x64x128_0_6_0_0)) (hwr c 0 1 (k0_pay7 v55) f)))) -∗ Kt ⟨k0_pay10 (stW m c), Scalar.remsi (Scalar.addi v2 2#32) 4#32⟩)
          -∗ WP (k0_part3 qM h0 kvM h1 woM h2 oM h3 cM h4 cc0_scratch1 cc0_scratch2 c v2 v3 v42 v55) Kt) := by
  rw [k0_part3_eq_skeleton]
  unfold k0_part3_skel
  simp only [semSignalWord, semWaitWord, Prog.lift, Prog.bind_op, Prog.bind_ret, Prog.pure_eq_ret, wp_deviceId]
  iintro ⟨#Hrec, #Hlev, HO, Hc, Hat, Hkv, Hw, Hs⟩ Hk
  iapply (w_ownLoad c 0 1 _ (k0_off2_eq c) (k0_off2_inb c) _) $$ Hs
  iintro Hs
  iapply (w_ownStore c 0 1 _ (k0_off2_eq c) (k0_off2_inb c) _ _) $$ Hs
  iintro Hs
  iapply (wp_load 𝒱₀ (c : Thread nD τ) none Set.univ (m := kvM) (Finset.subset_univ _)) $$ Hkv
  iintro Hkv
  iapply (w_ownLoad c 0 2 _ (k0_off3_eq c) (k0_off3_inb c) _) $$ Hs
  iintro Hs
  iapply (w_ownStore c 0 2 _ (k0_off3_eq c) (k0_off3_inb c) _ _) $$ Hs
  iintro Hs
  iapply (wp_load 𝒱₀ (c : Thread nD τ) none Set.univ (m := kvM) (Finset.subset_univ _)) $$ Hkv
  iintro Hkv
  iapply (w_ownLoad c 0 3 _ (k0_off4_eq c) (k0_off4_inb c) _) $$ Hs
  iintro Hs
  iapply (w_ownStore c 0 3 _ (k0_off4_eq c) (k0_off4_inb c) _ _) $$ Hs
  iintro Hs
  iapply (wp_load 𝒱₀ (c : Thread nD τ) none Set.univ (m := woM) (Finset.subset_univ _)) $$ Hw
  iintro Hw
  rw [w_whole (F := F) (stW m c)]
  iapply (w_barWait m K c _ (by decide) _ hv) $$ [HO Hc Hat]
  · isplitr; · iexact Hrec
    isplitr; · iexact Hlev
    isplitl [HO]; · iexact HO
    isplitl [Hc] <;> iassumption
  iintro ⟨HO, Hb, P00, P01, P10, P11, P20, P21⟩
  rw [wp_ret]
  imodintro
  iapply Hk
  isplitl [HO]; · iexact HO
  isplitl [Hb]; · iexact Hb
  isplitl [P00]; · iexact P00
  isplitl [P01]; · iexact P01
  isplitl [P10]; · iexact P10
  isplitl [P11]; · iexact P11
  isplitl [P20]; · iexact P20
  isplitl [P21]; · iexact P21
  isplitl [Hkv]; · iexact Hkv
  isplitl [Hw]; · iexact Hw
  iexact Hs

/-- The first two copies of the own block of batch 0. -/
theorem part4_run (v2 v83 : BitVec 32) {Kt : PUnit → sProp 𝕄} :
    iprop(records m K ∗ ow c (o6 c) ∗ slotPts c c 0 (qs 1) (G m) ∗ pslot c 1 0 ∗ sendIn c 1 0 ∗ slotPts c c 0 (qs 0) (G m) ∗ pslot c 0 0 ∗ sendIn c 0 0)
      ⊢ iprop(((ow c (o4 c) ∗ sendOut (F := F) c 1 0 ∗ sendOut (F := F) c 0 0) -∗ Kt ⟨⟩)
          -∗ WP (k0_part4 qM h0 kvM h1 woM h2 oM h3 cM h4 cc0_scratch1 cc0_scratch2 c v2 v83) Kt) := by
  rw [k0_part4_eq_skeleton]
  unfold k0_part4_skel
  simp only [semSignalWord, semWaitWord, Prog.lift, Prog.bind_op, Prog.bind_ret, Prog.pure_eq_ret, wp_deviceId]
  iintro ⟨#Hrec, HO, S1, P1, I1, S0, P0, I0⟩ Hk
  iapply (s_send m K c 1 0 _ (dev4_eq c) (o5 c) (o6 c) rfl _ (slot_off c 0 _ (k0_off6_eq c) (k0_off6_inb c)) _ (slot_off c 0 _ (k0_off6_eq c) (k0_off6_inb c)) _ (sS_10) _ (rS_off c 0 _ (k0_off5_eq c) (k0_off5_inb c))) $$ [S1 P1 HO I1]
  · isplitr; · iexact Hrec
    isplitl [S1]; · iexact S1
    isplitl [P1]; · iexact P1
    isplitl [HO]; · iexact HO
    iexact I1
  iintro ⟨U1, HO⟩
  iapply (s_send m K c 0 0 _ (dev5_eq c) (o4 c) (o5 c) rfl _ (slot_off c 0 _ (k0_off6_eq c) (k0_off6_inb c)) _ (slot_off c 0 _ (k0_off6_eq c) (k0_off6_inb c)) _ (sS_00) _ (rS_off c 0 _ (k0_off5_eq c) (k0_off5_inb c))) $$ [S0 P0 HO I0]
  · isplitr; · iexact Hrec
    isplitl [S0]; · iexact S0
    isplitl [P0]; · iexact P0
    isplitl [HO]; · iexact HO
    iexact I0
  iintro ⟨U0, HO⟩
  rw [wp_ret]
  imodintro
  iapply Hk
  isplitl [HO]; · iexact HO
  isplitl [U1]; · iexact U1
  iexact U0

/-- The third copy of batch 0; the scores of batch 1. -/
theorem part5_run  {Kt : (FVec F S512x128 .f32) → sProp 𝕄} :
    iprop(records m K ∗ ow c (o4 c) ∗ slotPts c c 0 (qs 2) (G m) ∗ pslot c 2 0 ∗ sendIn c 2 0 ∗ qPts m c ∗ kPts m c)
      ⊢ iprop(((ow c (o3 c) ∗ sendOut (F := F) c 2 0 ∗ qPts m c ∗ kPts m c) -∗ Kt (sc1 (stQ m c) (stK m c)))
          -∗ WP (k0_part5 qM h0 kvM h1 woM h2 oM h3 cM h4 cc0_scratch1 cc0_scratch2 c) Kt) := by
  rw [k0_part5_eq_skeleton]
  unfold k0_part5_skel
  simp only [semSignalWord, semWaitWord, Prog.lift, Prog.bind_op, Prog.bind_ret, Prog.pure_eq_ret, wp_deviceId]
  iintro ⟨#Hrec, HO, S2, P2, I2, Hq, Hkv⟩ Hk
  iapply (s_send m K c 2 0 _ (dev6_eq c) (o3 c) (o4 c) rfl _ (slot_off c 0 _ (k0_off6_eq c) (k0_off6_inb c)) _ (slot_off c 0 _ (k0_off6_eq c) (k0_off6_inb c)) _ (sS_20) _ (rS_off c 0 _ (k0_off5_eq c) (k0_off5_inb c))) $$ [S2 P2 HO I2]
  · isplitr; · iexact Hrec
    isplitl [S2]; · iexact S2
    isplitl [P2]; · iexact P2
    isplitl [HO]; · iexact HO
    iexact I2
  iintro ⟨U2, HO⟩
  iapply (wp_load 𝒱₀ (c : Thread nD τ) none Set.univ (m := qM) (Finset.subset_univ _)) $$ Hq
  iintro Hq
  iapply (wp_load 𝒱₀ (c : Thread nD τ) none Set.univ (m := kvM) (Finset.subset_univ _)) $$ Hkv
  iintro Hkv
  iapply (wp_load 𝒱₀ (c : Thread nD τ) none Set.univ (m := qM) (Finset.subset_univ _)) $$ Hq
  iintro Hq
  iapply (wp_load 𝒱₀ (c : Thread nD τ) none Set.univ (m := kvM) (Finset.subset_univ _)) $$ Hkv
  iintro Hkv
  iapply (wp_load 𝒱₀ (c : Thread nD τ) none Set.univ (m := qM) (Finset.subset_univ _)) $$ Hq
  iintro Hq
  iapply (wp_load 𝒱₀ (c : Thread nD τ) none Set.univ (m := kvM) (Finset.subset_univ _)) $$ Hkv
  iintro Hkv
  iapply (wp_load 𝒱₀ (c : Thread nD τ) none Set.univ (m := qM) (Finset.subset_univ _)) $$ Hq
  iintro Hq
  iapply (wp_load 𝒱₀ (c : Thread nD τ) none Set.univ (m := kvM) (Finset.subset_univ _)) $$ Hkv
  iintro Hkv
  rw [wp_ret]
  imodintro
  iapply Hk
  isplitl [HO]; · iexact HO
  isplitl [U2]; · iexact U2
  isplitl [Hq]; · iexact Hq
  iexact Hkv

/-- Two blocks of batch 1. -/
theorem part6_run (v2 : BitVec 32) (v138 : FVec F S512x128 .f32) (f : (cc0_scratch0 : Ref sig .tc).ty.Contents (Elt F)) {Kt : (Σ' (v144 : FVec F S512x128 .bf16), FVec F S1x1x128x64 .bf16) → sProp 𝕄} :
    iprop(kPts m c ∗ slotPts c c 1 fullShare f)
      ⊢ iprop(((kPts m c ∗ slotPts c c 1 fullShare (hwr c 1 1 (k0_pay14 v138 (ldK (stK m c) ![1, 5, 0, 0] inb_S2x8x64x128_S1x1x64x128_1_5_0_0)) (hwr c 1 0 (k0_pay13 v138 (ldK (stK m c) ![1, 4, 0, 0] inb_S2x8x64x128_S1x1x64x128_1_4_0_0)) f))) -∗ Kt ⟨k0_pay12 v138, k0_pay15 v138 (ldK (stK m c) ![1, 6, 0, 0] inb_S2x8x64x128_S1x1x64x128_1_6_0_0)⟩)
          -∗ WP (k0_part6 qM h0 kvM h1 woM h2 oM h3 cM h4 cc0_scratch1 cc0_scratch2 c v2 v138) Kt) := by
  rw [k0_part6_eq_skeleton]
  unfold k0_part6_skel
  simp only [semSignalWord, semWaitWord, Prog.lift, Prog.bind_op, Prog.bind_ret, Prog.pure_eq_ret, wp_deviceId]
  iintro ⟨Hkv, Hs⟩ Hk
  iapply (wp_load 𝒱₀ (c : Thread nD τ) none Set.univ (m := kvM) (Finset.subset_univ _)) $$ Hkv
  iintro Hkv
  iapply (w_ownLoad c 1 0 _ (k0_off7_eq c) (k0_off7_inb c) _) $$ Hs
  iintro Hs
  iapply (w_ownStore c 1 0 _ (k0_off7_eq c) (k0_off7_inb c) _ _) $$ Hs
  iintro Hs
  iapply (wp_load 𝒱₀ (c : Thread nD τ) none Set.univ (m := kvM) (Finset.subset_univ _)) $$ Hkv
  iintro Hkv
  iapply (w_ownLoad c 1 1 _ (k0_off8_eq c) (k0_off8_inb c) _) $$ Hs
  iintro Hs
  iapply (w_ownStore c 1 1 _ (k0_off8_eq c) (k0_off8_inb c) _ _) $$ Hs
  iintro Hs
  iapply (wp_load 𝒱₀ (c : Thread nD τ) none Set.univ (m := kvM) (Finset.subset_univ _)) $$ Hkv
  iintro Hkv
  iapply (w_ownLoad c 1 2 _ (k0_off9_eq c) (k0_off9_inb c) _) $$ Hs
  iintro Hs
  rw [wp_ret]
  imodintro
  iapply Hk
  isplitl [Hkv]; · iexact Hkv
  iexact Hs

/-- The last two blocks of batch 1, and the first copy of it. -/
theorem part7_run (v2 : BitVec 32) (v144 : FVec F S512x128 .bf16) (v171 : FVec F S1x1x128x64 .bf16) (f : (cc0_scratch0 : Ref sig .tc).ty.Contents (Elt F))
    (hst : (slotPts c c 1 fullShare (hwr c 1 3 (k0_pay16 v144 (ldK (stK m c) ![1, 7, 0, 0] inb_S2x8x64x128_S1x1x64x128_1_7_0_0)) (hwr c 1 2 v171 f)) : sProp 𝕄) = slotPts c c 1 fullShare (G m)) {Kt : PUnit → sProp 𝕄} :
    iprop(records m K ∗ ow c (o3 c) ∗ kPts m c ∗ slotPts c c 1 fullShare f ∗ pslot c 1 1 ∗ sendIn c 1 1)
      ⊢ iprop(((ow c (o2 c) ∗ kPts m c ∗ slotPts c c 1 (qs 0) (G m) ∗ slotPts c c 1 (qs 2) (G m) ∗ slotPts c c 1 qk (G m) ∗ sendOut (F := F) c 1 1) -∗ Kt ⟨⟩)
          -∗ WP (k0_part7 qM h0 kvM h1 woM h2 oM h3 cM h4 cc0_scratch1 cc0_scratch2 c v2 v144 v171) Kt) := by
  rw [k0_part7_eq_skeleton]
  unfold k0_part7_skel
  simp only [semSignalWord, semWaitWord, Prog.lift, Prog.bind_op, Prog.bind_ret, Prog.pure_eq_ret, wp_deviceId]
  iintro ⟨#Hrec, HO, Hkv, Hs, P1, I1⟩ Hk
  iapply (w_ownStore c 1 2 _ (k0_off9_eq c) (k0_off9_inb c) _ _) $$ Hs
  iintro Hs
  iapply (wp_load 𝒱₀ (c : Thread nD τ) none Set.univ (m := kvM) (Finset.subset_univ _)) $$ Hkv
  iintro Hkv
  iapply (w_ownLoad c 1 3 _ (k0_off10_eq c) (k0_off10_inb c) _) $$ Hs
  iintro Hs
  iapply (w_ownStore c 1 3 _ (k0_off10_eq c) (k0_off10_inb c) _ _) $$ Hs
  iintro Hs
  ihave Hs := (Entails.of_eq hst) $$ Hs
  ihave Hs := (slot_shares c c 1 (G m)).1 $$ Hs
  icases Hs with ⟨S1, S0, S2, Sk⟩
  iapply (s_send m K c 1 1 _ (dev7_eq c) (o2 c) (o3 c) rfl _ (slot_off c 1 _ (k0_off12_eq c) (k0_off12_inb c)) _ (slot_off c 1 _ (k0_off12_eq c) (k0_off12_inb c)) _ (sS_11) _ (rS_off c 1 _ (k0_off11_eq c) (k0_off11_inb c))) $$ [S1 P1 HO I1]
  · isplitr; · iexact Hrec
    isplitl [S1]; · iexact S1
    isplitl [P1]; · iexact P1
    isplitl [HO]; · iexact HO
    iexact I1
  iintro ⟨U1, HO⟩
  rw [wp_ret]
  imodintro
  iapply Hk
  isplitl [HO]; · iexact HO
  isplitl [Hkv]; · iexact Hkv
  isplitl [S0]; · iexact S0
  isplitl [S2]; · iexact S2
  isplitl [Sk]; · iexact Sk
  iexact U1

/-- The last two copies; the first slot. -/
theorem part8_run  {Kt : (BitVec 32) → sProp 𝕄} :
    iprop(records m K ∗ ow c (o2 c) ∗ slotPts c c 1 (qs 0) (G m) ∗ pslot c 0 1 ∗ sendIn c 0 1 ∗ slotPts c c 1 (qs 2) (G m) ∗ pslot c 2 1 ∗ sendIn c 2 1 ∗ slotIn m c 0 0)
      ⊢ iprop(((ow c 0 ∗ sendOut (F := F) c 0 1 ∗ sendOut (F := F) c 2 1 ∗ slotDone m c 0 0) -∗ Kt (Scalar.extui (Scalar.cmpi .ne (wd c) 0#32)))
          -∗ WP (k0_part8 qM h0 kvM h1 woM h2 oM h3 cM h4 cc0_scratch1 cc0_scratch2 c (wd c)) Kt) := by
  rw [k0_part8_eq_skeleton]
  unfold k0_part8_skel
  simp only [semSignalWord, semWaitWord, Prog.lift, Prog.bind_op, Prog.bind_ret, Prog.pure_eq_ret, wp_deviceId]
  iintro ⟨#Hrec, HO, S0, P0, I0, S2, P2, I2, R00⟩ Hk
  iapply (s_send m K c 0 1 _ (dev8_eq c) (o1 c) (o2 c) rfl _ (slot_off c 1 _ (k0_off12_eq c) (k0_off12_inb c)) _ (slot_off c 1 _ (k0_off12_eq c) (k0_off12_inb c)) _ (sS_01) _ (rS_off c 1 _ (k0_off11_eq c) (k0_off11_inb c))) $$ [S0 P0 HO I0]
  · isplitr; · iexact Hrec
    isplitl [S0]; · iexact S0
    isplitl [P0]; · iexact P0
    isplitl [HO]; · iexact HO
    iexact I0
  iintro ⟨U0, HO⟩
  iapply (s_send m K c 2 1 _ (dev9_eq c) (0 : CellTallies nD τ sig Unit) (o1 c) rfl _ (slot_off c 1 _ (k0_off12_eq c) (k0_off12_inb c)) _ (slot_off c 1 _ (k0_off12_eq c) (k0_off12_inb c)) _ (sS_21) _ (rS_off c 1 _ (k0_off11_eq c) (k0_off11_inb c))) $$ [S2 P2 HO I2]
  · isplitr; · iexact Hrec
    isplitl [S2]; · iexact S2
    isplitl [P2]; · iexact P2
    isplitl [HO]; · iexact HO
    iexact I2
  iintro ⟨U2, HO⟩
  iapply (s_recvWait m K c 0 0 _ (cond0 c) _ _ (fun _ => ⟨_, _, rfl⟩)) $$ [HO R00]
  · isplitr; · iexact Hrec
    isplitl [HO] <;> iassumption
  iintro ⟨HO, R00⟩
  rw [wp_ret]
  imodintro
  iapply Hk
  isplitl [HO]; · iexact HO
  isplitl [U0]; · iexact U0
  isplitl [U2]; · iexact U2
  iexact R00

/-- The slots of devices 0 and 1, and their part of the product. -/
theorem part9_run (v81 : FVec F S1024x512 .bf16) {Kt : (Σ' (v239 : FVec F S256x512 .f32), BitVec 32) → sProp 𝕄} :
    iprop(records m K ∗ ow c 0 ∗ slotDone m c 0 0 ∗ slotIn m c 0 1 ∗ slotIn m c 1 0 ∗ slotIn m c 1 1)
      ⊢ iprop(((ow c 0 ∗ slotDone m c 0 0 ∗ slotDone m c 0 1 ∗ slotDone m c 1 0 ∗ slotDone m c 1 1) -∗ Kt ⟨k0_pay17 v81 (chunk m 0) (chunk m 1), (Scalar.extui (Scalar.cmpi .ne (wd c) 2#32))⟩)
          -∗ WP (k0_part9 qM h0 kvM h1 woM h2 oM h3 cM h4 cc0_scratch1 cc0_scratch2 (wd c) v81 (Scalar.extui (Scalar.cmpi .ne (wd c) 0#32))) Kt) := by
  rw [k0_part9_eq_skeleton]
  unfold k0_part9_skel
  simp only [semSignalWord, semWaitWord, Prog.lift, Prog.bind_op, Prog.bind_ret, Prog.pure_eq_ret, wp_deviceId]
  iintro ⟨#Hrec, HO, R00, R01, R10, R11⟩ Hk
  iapply (s_recvWait m K c 0 1 _ (cond0 c) _ _ (fun _ => ⟨_, _, rfl⟩)) $$ [HO R01]
  · isplitr; · iexact Hrec
    isplitl [HO] <;> iassumption
  iintro ⟨HO, R01⟩
  iapply (s_chunk m c 0 ![0, 0, 0, 0] rfl _) $$ [R00 R01]
  · isplitl [R00] <;> iassumption
  iintro ⟨R00, R01⟩
  iapply (s_recvWait m K c 1 0 _ (cond1 c) _ _ (fun _ => ⟨_, _, rfl⟩)) $$ [HO R10]
  · isplitr; · iexact Hrec
    isplitl [HO] <;> iassumption
  iintro ⟨HO, R10⟩
  iapply (s_recvWait m K c 1 1 _ (cond1 c) _ _ (fun _ => ⟨_, _, rfl⟩)) $$ [HO R11]
  · isplitr; · iexact Hrec
    isplitl [HO] <;> iassumption
  iintro ⟨HO, R11⟩
  iapply (s_chunk m c 1 ![1, 0, 0, 0] rfl _) $$ [R10 R11]
  · isplitl [R10] <;> iassumption
  iintro ⟨R10, R11⟩
  rw [wp_ret]
  imodintro
  iapply Hk
  isplitl [HO]; · iexact HO
  isplitl [R00]; · iexact R00
  isplitl [R01]; · iexact R01
  isplitl [R10]; · iexact R10
  iexact R11

/-- The slot of device 2. -/
theorem part10_run (v81 : FVec F S1024x512 .bf16) (v239 : FVec F S256x512 .f32) {Kt : (Σ' (v251 : FVec F S256x512 .f32), BitVec 1) → sProp 𝕄} :
    iprop(records m K ∗ ow c 0 ∗ slotIn m c 2 0 ∗ slotIn m c 2 1 ∗ slotIn m c 3 0)
      ⊢ iprop(((ow c 0 ∗ slotDone m c 2 0 ∗ slotDone m c 2 1 ∗ slotDone m c 3 0) -∗ Kt ⟨k0_pay18 v81 v239 (chunk m 2), Scalar.cmpi .ne (Scalar.extui (Scalar.cmpi .ne (wd c) 3#32) : BitVec 32) 0#32⟩)
          -∗ WP (k0_part10 qM h0 kvM h1 woM h2 oM h3 cM h4 cc0_scratch1 cc0_scratch2 (wd c) v81 v239 (Scalar.extui (Scalar.cmpi .ne (wd c) 2#32))) Kt) := by
  rw [k0_part10_eq_skeleton]
  unfold k0_part10_skel
  simp only [semSignalWord, semWaitWord, Prog.lift, Prog.bind_op, Prog.bind_ret, Prog.pure_eq_ret, wp_deviceId]
  iintro ⟨#Hrec, HO, R20, R21, R30⟩ Hk
  iapply (s_recvWait m K c 2 0 _ (cond2 c) _ _ (fun _ => ⟨_, _, rfl⟩)) $$ [HO R20]
  · isplitr; · iexact Hrec
    isplitl [HO] <;> iassumption
  iintro ⟨HO, R20⟩
  iapply (s_recvWait m K c 2 1 _ (cond2 c) _ _ (fun _ => ⟨_, _, rfl⟩)) $$ [HO R21]
  · isplitr; · iexact Hrec
    isplitl [HO] <;> iassumption
  iintro ⟨HO, R21⟩
  iapply (s_chunk m c 2 ![2, 0, 0, 0] rfl _) $$ [R20 R21]
  · isplitl [R20] <;> iassumption
  iintro ⟨R20, R21⟩
  iapply (s_recvWait m K c 3 0 _ (cond3 c) _ _ (fun _ => ⟨_, _, rfl⟩)) $$ [HO R30]
  · isplitr; · iexact Hrec
    isplitl [HO] <;> iassumption
  iintro ⟨HO, R30⟩
  rw [wp_ret]
  imodintro
  iapply Hk
  isplitl [HO]; · iexact HO
  isplitl [R20]; · iexact R20
  isplitl [R21]; · iexact R21
  iexact R30

/-- The slot of device 3, the result, and the first two copies read. -/
theorem part11_run (v81 : FVec F S1024x512 .bf16) (v251 : FVec F S256x512 .f32) (f : (cc0_stg3_0 : Ref sig .tc).ty.Contents (Elt F)) {Kt : PUnit → sProp 𝕄} :
    iprop(records m K ∗ ow c 0 ∗ slotDone m c 3 0 ∗ slotIn m c 3 1 ∗ oPts c f ∗ sendOut (F := F) c 1 0 ∗ sendOut (F := F) c 0 0)
      ⊢ iprop(((ow c 0 ∗ slotDone m c 3 0 ∗ slotDone m c 3 1 ∗ oPts c (k0_pay19 v81 v251 (chunk m 3)) ∗ sendDone m c 1 0 ∗ sendDone m c 0 0) -∗ Kt ⟨⟩)
          -∗ WP (k0_part11 qM h0 kvM h1 woM h2 oM h3 cM h4 cc0_scratch1 cc0_scratch2 c (wd c) v81 v251 (Scalar.cmpi .ne (Scalar.extui (Scalar.cmpi .ne (wd c) 3#32) : BitVec 32) 0#32)) Kt) := by
  rw [k0_part11_eq_skeleton]
  unfold k0_part11_skel
  simp only [semSignalWord, semWaitWord, Prog.lift, Prog.bind_op, Prog.bind_ret, Prog.pure_eq_ret, wp_deviceId]
  iintro ⟨#Hrec, HO, R30, R31, Ho, U1, U0⟩ Hk
  iapply (s_recvWait m K c 3 1 _ (cond3 c) _ _ (fun _ => ⟨_, _, rfl⟩)) $$ [HO R31]
  · isplitr; · iexact Hrec
    isplitl [HO] <;> iassumption
  iintro ⟨HO, R31⟩
  iapply (s_chunk m c 3 ![3, 0, 0, 0] rfl _) $$ [R30 R31]
  · isplitl [R30] <;> iassumption
  iintro ⟨R30, R31⟩
  iapply (wp_load 𝒱₀ (c : Thread nD τ) none Set.univ (m := oM) (Finset.subset_univ _)) $$ Ho
  iintro Ho
  iapply (wp_store 𝒱₀ (c : Thread nD τ) none Set.univ (m := oM) (r := Rect.unit (s := S2x128x512) ![0, 0, 0] S2x128x512.size inb_S2x128x512_S2x128x512_0_0_0) (Mk := Finset.univ) (Finset.subset_univ _)) $$ Ho
  iintro Ho
  ihave Ho := (Entails.of_eq (congrArg (fun g => oPts (F := F) c g) (Memref.write_access_unit_zero_univ (Elt F) cc0_stg3_0 (by decide) inb_S2x128x512_S2x128x512_0_0_0 f (k0_pay19 v81 v251 (chunk m 3))))) $$ Ho
  iapply (s_sendWait m K c 1 0 _ _ (slot_off c 0 _ (k0_off6_eq c) (k0_off6_inb c)) _ (sS_10)) $$ [HO U1]
  · isplitr; · iexact Hrec
    isplitl [HO] <;> iassumption
  iintro ⟨HO, D1⟩
  iapply (s_sendWait m K c 0 0 _ _ (slot_off c 0 _ (k0_off6_eq c) (k0_off6_inb c)) _ (sS_00)) $$ [HO U0]
  · isplitr; · iexact Hrec
    isplitl [HO] <;> iassumption
  iintro ⟨HO, D0⟩
  rw [wp_ret]
  imodintro
  iapply Hk
  isplitl [HO]; · iexact HO
  isplitl [R30]; · iexact R30
  isplitl [R31]; · iexact R31
  isplitl [Ho]; · iexact Ho
  isplitl [D1]; · iexact D1
  iexact D0

/-- Three more copies read. -/
theorem part12_run  {Kt : PUnit → sProp 𝕄} :
    iprop(records m K ∗ ow c 0 ∗ sendOut (F := F) c 2 0 ∗ sendOut (F := F) c 1 1 ∗ sendOut (F := F) c 0 1)
      ⊢ iprop(((ow c 0 ∗ sendDone m c 2 0 ∗ sendDone m c 1 1 ∗ sendDone m c 0 1) -∗ Kt ⟨⟩)
          -∗ WP (k0_part12 qM h0 kvM h1 woM h2 oM h3 cM h4 cc0_scratch1 cc0_scratch2 c) Kt) := by
  rw [k0_part12_eq_skeleton]
  unfold k0_part12_skel
  simp only [semSignalWord, semWaitWord, Prog.lift, Prog.bind_op, Prog.bind_ret, Prog.pure_eq_ret, wp_deviceId]
  iintro ⟨#Hrec, HO, U2, U1, U0⟩ Hk
  iapply (s_sendWait m K c 2 0 _ _ (slot_off c 0 _ (k0_off6_eq c) (k0_off6_inb c)) _ (sS_20)) $$ [HO U2]
  · isplitr; · iexact Hrec
    isplitl [HO] <;> iassumption
  iintro ⟨HO, D2⟩
  iapply (s_sendWait m K c 1 1 _ _ (slot_off c 1 _ (k0_off12_eq c) (k0_off12_inb c)) _ (sS_11)) $$ [HO U1]
  · isplitr; · iexact Hrec
    isplitl [HO] <;> iassumption
  iintro ⟨HO, D1⟩
  iapply (s_sendWait m K c 0 1 _ _ (slot_off c 1 _ (k0_off12_eq c) (k0_off12_inb c)) _ (sS_01)) $$ [HO U0]
  · isplitr; · iexact Hrec
    isplitl [HO] <;> iassumption
  iintro ⟨HO, D0⟩
  rw [wp_ret]
  imodintro
  iapply Hk
  isplitl [HO]; · iexact HO
  isplitl [D2]; · iexact D2
  isplitl [D1]; · iexact D1
  iexact D0

end Parts

end Cert.Exchange
-- ==== Proof.Whole.lean ====
/- The kernel's whole body on one device, from its staged blocks to its result. -/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The four blocks of batch 0, stored, are the own slot's final contents. -/
theorem stored0 (c : Dev nD) (f : (cc0_scratch0 : Ref sig .tc).ty.Contents (Elt F)) :
    (slotPts c c 0 fullShare (hwr c 0 3 (k0_pay9 (k0_pay4 (k0_pay1 (ldQ (stQ m c) ![0, 0] inb_S256x256_S128x64_0_0) (ldK (stK m c) ![0, 0, 0, 0] inb_S2x8x64x128_S1x1x64x128_0_0_0_0)) (k0_pay2 (ldQ (stQ m c) ![0, 64] inb_S256x256_S128x64_0_64)) (k0_pay3 (ldK (stK m c) ![0, 1, 0, 0] inb_S2x8x64x128_S1x1x64x128_0_1_0_0)) (constant S128x128 .f32 0x00000000#32) (ldQ (stQ m c) ![0, 128] inb_S256x256_S128x64_0_128) (ldK (stK m c) ![0, 2, 0, 0] inb_S2x8x64x128_S1x1x64x128_0_2_0_0) (ldQ (stQ m c) ![0, 192] inb_S256x256_S128x64_0_192) (ldK (stK m c) ![0, 3, 0, 0] inb_S2x8x64x128_S1x1x64x128_0_3_0_0)) (ldK (stK m c) ![0, 7, 0, 0] inb_S2x8x64x128_S1x1x64x128_0_7_0_0)) (hwr c 0 2 (k0_pay8 (k0_pay4 (k0_pay1 (ldQ (stQ m c) ![0, 0] inb_S256x256_S128x64_0_0) (ldK (stK m c) ![0, 0, 0, 0] inb_S2x8x64x128_S1x1x64x128_0_0_0_0)) (k0_pay2 (ldQ (stQ m c) ![0, 64] inb_S256x256_S128x64_0_64)) (k0_pay3 (ldK (stK m c) ![0, 1, 0, 0] inb_S2x8x64x128_S1x1x64x128_0_1_0_0)) (constant S128x128 .f32 0x00000000#32) (ldQ (stQ m c) ![0, 128] inb_S256x256_S128x64_0_128) (ldK (stK m c) ![0, 2, 0, 0] inb_S2x8x64x128_S1x1x64x128_0_2_0_0) (ldQ (stQ m c) ![0, 192] inb_S256x256_S128x64_0_192) (ldK (stK m c) ![0, 3, 0, 0] inb_S2x8x64x128_S1x1x64x128_0_3_0_0)) (ldK (stK m c) ![0, 6, 0, 0] inb_S2x8x64x128_S1x1x64x128_0_6_0_0))
      (hwr c 0 1 (k0_pay7 (k0_pay6 (k0_pay1 (ldQ (stQ m c) ![0, 0] inb_S256x256_S128x64_0_0) (ldK (stK m c) ![0, 0, 0, 0] inb_S2x8x64x128_S1x1x64x128_0_0_0_0)) (k0_pay2 (ldQ (stQ m c) ![0, 64] inb_S256x256_S128x64_0_64)) (k0_pay3 (ldK (stK m c) ![0, 1, 0, 0] inb_S2x8x64x128_S1x1x64x128_0_1_0_0)) (constant S128x128 .f32 0x00000000#32) (ldQ (stQ m c) ![0, 128] inb_S256x256_S128x64_0_128) (ldK (stK m c) ![0, 2, 0, 0] inb_S2x8x64x128_S1x1x64x128_0_2_0_0) (ldQ (stQ m c) ![0, 192] inb_S256x256_S128x64_0_192) (ldK (stK m c) ![0, 3, 0, 0] inb_S2x8x64x128_S1x1x64x128_0_3_0_0) (ldK (stK m c) ![0, 5, 0, 0] inb_S2x8x64x128_S1x1x64x128_0_5_0_0))) (hwr c 0 0 (k0_pay5 (k0_pay1 (ldQ (stQ m c) ![0, 0] inb_S256x256_S128x64_0_0) (ldK (stK m c) ![0, 0, 0, 0] inb_S2x8x64x128_S1x1x64x128_0_0_0_0)) (k0_pay2 (ldQ (stQ m c) ![0, 64] inb_S256x256_S128x64_0_64)) (k0_pay3 (ldK (stK m c) ![0, 1, 0, 0] inb_S2x8x64x128_S1x1x64x128_0_1_0_0)) (constant S128x128 .f32 0x00000000#32) (ldQ (stQ m c) ![0, 128] inb_S256x256_S128x64_0_128) (ldK (stK m c) ![0, 2, 0, 0] inb_S2x8x64x128_S1x1x64x128_0_2_0_0) (ldQ (stQ m c) ![0, 192] inb_S256x256_S128x64_0_192) (ldK (stK m c) ![0, 3, 0, 0] inb_S2x8x64x128_S1x1x64x128_0_3_0_0) (ldK (stK m c) ![0, 4, 0, 0] inb_S2x8x64x128_S1x1x64x128_0_4_0_0)) f)))) : sProp 𝕄) = slotPts c c 0 fullShare (G m) :=
  stored_eq m c 0 f _ _ _ _ rfl rfl rfl rfl

/-- The four blocks of batch 1, stored, are the own slot's final contents. -/
theorem stored1 (c : Dev nD) (f : (cc0_scratch0 : Ref sig .tc).ty.Contents (Elt F)) :
    (slotPts c c 1 fullShare (hwr c 1 3 (k0_pay16 (k0_pay12 (sc1 (stQ m c) (stK m c))) (ldK (stK m c) ![1, 7, 0, 0] inb_S2x8x64x128_S1x1x64x128_1_7_0_0)) (hwr c 1 2 (k0_pay15 (sc1 (stQ m c) (stK m c)) (ldK (stK m c) ![1, 6, 0, 0] inb_S2x8x64x128_S1x1x64x128_1_6_0_0))
      (hwr c 1 1 (k0_pay14 (sc1 (stQ m c) (stK m c)) (ldK (stK m c) ![1, 5, 0, 0] inb_S2x8x64x128_S1x1x64x128_1_5_0_0)) (hwr c 1 0 (k0_pay13 (sc1 (stQ m c) (stK m c)) (ldK (stK m c) ![1, 4, 0, 0] inb_S2x8x64x128_S1x1x64x128_1_4_0_0)) f)))) : sProp 𝕄) = slotPts c c 1 fullShare (G m) :=
  stored_eq m c 1 f _ _ _ _ rfl rfl rfl rfl

theorem bigSep_six (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

theorem bigSep_three (Φ : Fin 3 → sProp 𝕄) : bigSep Finset.univ Φ = iprop(Φ 0 ∗ Φ 1 ∗ Φ 2) :=
  bigSep_univ_eq_bigSepL [0, 1, 2] (by decide) (by decide) Φ

/-- The exchange buffer as the own slots and the peers'. -/
theorem scratch_split (c : Dev nD) (f : (cc0_scratch0 : Ref sig .tc).ty.Contents (Elt F)) :
    ((((c : Thread nD τ).loc cc0_scratch0) ↦{fullShare} f : sProp 𝕄))
      ⊢ iprop(slotPts c c 0 fullShare f ∗ slotPts c c 1 fullShare f
        ∗ (∃ f, slotPts (F := F) c (pr c 0) 0 fullShare f) ∗ (∃ f, slotPts (F := F) c (pr c 0) 1 fullShare f)
        ∗ (∃ f, slotPts (F := F) c (pr c 1) 0 fullShare f) ∗ (∃ f, slotPts (F := F) c (pr c 1) 1 fullShare f)
        ∗ (∃ f, slotPts (F := F) c (pr c 2) 0 fullShare f) ∗ (∃ f, slotPts (F := F) c (pr c 2) 1 fullShare f)) := by
  rw [scratch_slots, twoB, around c, around c]
  iintro ⟨⟨A, A0, A1, A2⟩, B, B0, B1, B2⟩
  isplitl [A]; · iexact A
  isplitl [B]; · iexact B
  isplitl [A0]; · iexists f; iexact A0
  isplitl [B0]; · iexists f; iexact B0
  isplitl [A1]; · iexists f; iexact A1
  isplitl [B1]; · iexists f; iexact B1
  isplitl [A2]; · iexists f; iexact A2
  iexists f; iexact B2

/-- What is known of the own receive cells, apart from what is held. -/
theorem recv_split (c : Dev nD) :
    bigSep Finset.univ (fun x : Dev nD × Fin 2 => iprop(recvIn (F := F) c x.1 x.2 ∗ reached ER (recvCell c x.1 x.2) 0))
      ⊢ iprop(bigSep Finset.univ (fun x : Dev nD × Fin 2 => recvIn (F := F) c x.1 x.2)
        ∗ reached ER (recvCell c (pr c 0) 0) 0 ∗ reached ER (recvCell c (pr c 0) 1) 0
        ∗ reached ER (recvCell c (pr c 1) 0) 0 ∗ reached ER (recvCell c (pr c 1) 1) 0
        ∗ reached ER (recvCell c (pr c 2) 0) 0 ∗ reached ER (recvCell c (pr c 2) 1) 0) := by
  have e : bigSep Finset.univ (fun x : Dev nD × Fin 2 => iprop(recvIn (F := F) c x.1 x.2 ∗ reached ER (recvCell c x.1 x.2) 0))
      = iprop(bigSep Finset.univ (fun x : Dev nD × Fin 2 => recvIn (F := F) c x.1 x.2) ∗ bigSep Finset.univ (fun x : Dev nD × Fin 2 => (reached ER (recvCell c x.1 x.2) 0 : sProp 𝕄))) :=
    bigSep_sep Finset.univ (fun x : Dev nD × Fin 2 => recvIn (F := F) c x.1 x.2) (fun x => reached ER (recvCell c x.1 x.2) 0)
  rw [e, twoB (fun x : Dev nD × Fin 2 => reached ER (recvCell c x.1 x.2) 0), around c, around c]
  iintro ⟨H, ⟨-, A0, A1, A2⟩, -, B0, B1, B2⟩
  isplitl [H]; · iexact H
  isplitl [A0]; · iexact A0
  isplitl [B0]; · iexact B0
  isplitl [A1]; · iexact A1
  isplitl [B1]; · iexact B1
  isplitl [A2]; · iexact A2
  iexact B2

theorem slotIn_own (c : Dev nD) (b : Fin 2) : iprop(recvIn (F := F) c c b ∗ slotPts c c b qk (G m)) ⊢ slotIn m c c b := by
  unfold slotIn; rw [if_pos rfl]
theorem slotIn_peer (c : Dev nD) (j : Fin 3) (b : Fin 2) : recvIn (F := F) c (pr c j) b ⊢ slotIn m c (pr c j) b := by
  unfold slotIn; rw [if_neg (pr_ne c j)]; iintro H; isplitl [H]; · iexact H
  iempintro

/-- Everything the waits on the slots start from, the devices in order. -/
theorem slotIn_all (c : Dev nD) :
    iprop(bigSep Finset.univ (fun x : Dev nD × Fin 2 => recvIn (F := F) c x.1 x.2) ∗ slotPts c c 0 qk (G m) ∗ slotPts c c 1 qk (G m))
      ⊢ iprop((slotIn m c 0 0 ∗ slotIn m c 1 0 ∗ slotIn m c 2 0 ∗ slotIn m c 3 0) ∗ (slotIn m c 0 1 ∗ slotIn m c 1 1 ∗ slotIn m c 2 1 ∗ slotIn m c 3 1)) := by
  rw [← inOrder (fun o => slotIn m c o 0), ← inOrder (fun o => slotIn m c o 1), twoB, around c, around c, around c, around c]
  iintro ⟨⟨⟨A, A0, A1, A2⟩, B, B0, B1, B2⟩, S0, S1⟩
  isplitl [A A0 A1 A2 S0]
  · isplitl [A S0]
    · iapply (slotIn_own m c 0); isplitl [A] <;> iassumption
    isplitl [A0]; · iapply (slotIn_peer m c 0 0); iexact A0
    isplitl [A1]; · iapply (slotIn_peer m c 1 0); iexact A1
    iapply (slotIn_peer m c 2 0); iexact A2
  · isplitl [B S1]
    · iapply (slotIn_own m c 1); isplitl [B] <;> iassumption
    isplitl [B0]; · iapply (slotIn_peer m c 0 1); iexact B0
    isplitl [B1]; · iapply (slotIn_peer m c 1 1); iexact B1
    iapply (slotIn_peer m c 2 1); iexact B2

theorem rq_own (c : Dev nD) : rq c c = qk := if_pos rfl
theorem rq_peer (c : Dev nD) (j : Fin 3) : rq c (pr c j) = fullShare := if_neg (pr_ne c j)

/-- Everything back: the buffer whole, and every copy's cells closed. -/
theorem all_back (c : Dev nD) :
    iprop((slotDone m c 0 0 ∗ slotDone m c 1 0 ∗ slotDone m c 2 0 ∗ slotDone m c 3 0) ∗ (slotDone m c 0 1 ∗ slotDone m c 1 1 ∗ slotDone m c 2 1 ∗ slotDone m c 3 1)
        ∗ sendDone m c 0 0 ∗ sendDone m c 0 1 ∗ sendDone m c 1 0 ∗ sendDone m c 1 1 ∗ sendDone m c 2 0 ∗ sendDone m c 2 1)
      ⊢ iprop((((c : Thread nD τ).loc cc0_scratch0) ↦{fullShare} G m)
        ∗ bigSep Finset.univ (fun x : Fin 3 × Fin 2 => semVal (sendCell c x.1 x.2) 0)
        ∗ bigSep Finset.univ (fun x : Dev nD × Fin 2 => semVal (recvCell c x.1 x.2) 0)) := by
  rw [← inOrder (fun o => slotDone m c o 0), ← inOrder (fun o => slotDone m c o 1), bigSep_six, scratch_slots, twoB, twoB, around c, around c, around c, around c, around c, around c]
  unfold slotDone sendDone
  rw [rq_own, rq_peer, rq_peer, rq_peer]
  iintro ⟨⟨⟨A, VA⟩, ⟨A0, VA0⟩, ⟨A1, VA1⟩, A2, VA2⟩, ⟨⟨B, VB⟩, ⟨B0, VB0⟩, ⟨B1, VB1⟩, B2, VB2⟩, ⟨S00, V00⟩, ⟨S01, V01⟩, ⟨S10, V10⟩, ⟨S11, V11⟩, ⟨S20, V20⟩, S21, V21⟩
  ihave A := (slot_shares c c 0 (G m)).2 $$ [A S00 S10 S20]
  · isplitl [S10]; · iexact S10
    isplitl [S00]; · iexact S00
    isplitl [S20] <;> iassumption
  ihave B := (slot_shares c c 1 (G m)).2 $$ [B S01 S11 S21]
  · isplitl [S11]; · iexact S11
    isplitl [S01]; · iexact S01
    isplitl [S21] <;> iassumption
  isplitl [A A0 A1 A2 B B0 B1 B2]
  · isplitl [A A0 A1 A2]
    · isplitl [A]; · iexact A
      isplitl [A0]; · iexact A0
      isplitl [A1] <;> iassumption
    · isplitl [B]; · iexact B
      isplitl [B0]; · iexact B0
      isplitl [B1] <;> iassumption
  isplitl [V00 V01 V10 V11 V20 V21]
  · isplitl [V00]; · iexact V00
    isplitl [V01]; · iexact V01
    isplitl [V10]; · iexact V10
    isplitl [V11]; · iexact V11
    isplitl [V20] <;> iassumption
  isplitl [VA VA0 VA1 VA2]
  · isplitl [VA]; · iexact VA
    isplitl [VA0]; · iexact VA0
    isplitl [VA1] <;> iassumption
  · isplitl [VB]; · iexact VB
    isplitl [VB0]; · iexact VB0
    isplitl [VB1] <;> iassumption

/-- What a device's body starts from. -/
def bodyIn (K : GSem nD τ sig → ℕ) (c : Dev nD) : sProp 𝕄 :=
  iprop(opened m K c ∗ ow c (O₀ c) ∗ qPts m c ∗ kPts m c ∗ wPts m c ∗ (∃ f, oPts (F := F) c f) ∗ (∃ f, ((c : Thread nD τ).loc cc0_scratch0) ↦{fullShare} f))
/-- What it leaves: its cells closed, its inputs as they were, its result. -/
def bodyOut (c : Dev nD) : sProp 𝕄 :=
  iprop(ow c 0 ∗ qPts m c ∗ kPts m c ∗ wPts m c ∗ oPts c (res m (stW m c)) ∗ (∃ f, ((c : Thread nD τ).loc cc0_scratch0) ↦{fullShare} f)
    ∗ semVal (barCell c) 0 ∗ bigSep Finset.univ (fun x : Fin 3 × Fin 2 => semVal (sendCell c x.1 x.2) 0)
    ∗ bigSep Finset.univ (fun x : Dev nD × Fin 2 => semVal (recvCell c x.1 x.2) 0))

section Run

variable (K : GSem nD τ sig → ℕ) (c : Dev nD)
variable (h0 : qM.IsWhole) (h1 : kvM.IsWhole) (h2 : woM.IsWhole) (h3 : oM.IsWhole) (h4 : cM.IsWhole)

local notation "WP" => wp frame (wpE (defs₀ (F := F)) 𝒱₀ (c : Thread nD τ) none) Set.univ

set_option maxHeartbeats 4000000 in
/-- The kernel's body on device `c`. -/
theorem body_run {Kt : PUnit → sProp 𝕄} :
    bodyIn m K c ⊢ iprop((bodyOut m c -∗ Kt ⟨⟩) -∗ WP (cc0_body qM h0 kvM h1 woM h2 oM h3 cM h4 cc0_scratch1 cc0_scratch2) Kt) := by
  rw [cc0_body_eq_skeleton]
  unfold cc0_body_skel bodyIn opened
  rw [wp_bind, bigSep_six, bigSep_three]
  iintro ⟨⟨#Hrec, #Hlev, Hat, Hc, ⟨T0, T1, T2⟩, ⟨I00, I01, I10, I11, I20, I21⟩, HR⟩, HO, Hq, Hkv, Hw, ⟨%fo, Ho⟩, ⟨%f, Hs⟩⟩ Hk
  ihave Hs := (scratch_split c f) $$ Hs
  icases Hs with ⟨Sa, Sb, A0, B0, A1, B1, A2, B2⟩
  ihave HR := (recv_split (F := F) c) $$ HR
  icases HR with ⟨HR, #RA0, #RB0, #RA1, #RB1, #RA2, #RB2⟩
  iapply (part1_run m K c h0 h1 h2 h3 h4) $$ [HO T0 T1 T2 A0 B0 A1 B1 A2 B2 Hq Hkv]
  · isplitr; · iexact Hrec
    isplitl [HO]; · iexact HO
    isplitl [T0]; · iexact T0
    isplitl [T1]; · iexact T1
    isplitl [T2]; · iexact T2
    isplitl [A0]; · iexact A0
    isplitl [B0]; · iexact B0
    isplitr; · iexact RA0
    isplitr; · iexact RB0
    isplitl [A1]; · iexact A1
    isplitl [B1]; · iexact B1
    isplitr; · iexact RA1
    isplitr; · iexact RB1
    isplitl [A2]; · iexact A2
    isplitl [B2]; · iexact B2
    isplitr; · iexact RA2
    isplitr; · iexact RB2
    isplitl [Hq] <;> iassumption
  iintro ⟨HO, Hq, Hkv⟩
  dsimp only
  rw [wp_bind]
  iapply (part2_run m c h0 h1 h2 h3 h4 _ _ _ _ _ _) $$ [Hq Hkv Sa]
  · isplitl [Hq]; · iexact Hq
    isplitl [Hkv]; · iexact Hkv
    iexact Sa
  iintro ⟨Hq, Hkv, Sa⟩
  try dsimp only
  rw [wp_bind]
  iapply (part3_run m K c h0 h1 h2 h3 h4 _ _ (by decide) _ _ _) $$ [HO Hc Hat Hkv Hw Sa]
  · isplitr; · iexact Hrec
    isplitr; · iexact Hlev
    isplitl [HO]; · iexact HO
    isplitl [Hc]; · iexact Hc
    isplitl [Hat]; · iexact Hat
    isplitl [Hkv]; · iexact Hkv
    isplitl [Hw]; · iexact Hw
    iexact Sa
  iintro ⟨HO, Hb, P00, P01, P10, P11, P20, P21, Hkv, Hw, Sa⟩
  try dsimp only
  rw [wp_bind]
  ihave Sa := (Entails.of_eq (stored0 m c f)) $$ Sa
  ihave Sa := (slot_shares c c 0 (G m)).1 $$ Sa
  icases Sa with ⟨S10, S00, S20, Ka⟩
  iapply (part4_run m K c h0 h1 h2 h3 h4 _ _) $$ [HO S10 P10 I10 S00 P00 I00]
  · isplitr; · iexact Hrec
    isplitl [HO]; · iexact HO
    isplitl [S10]; · iexact S10
    isplitl [P10]; · iexact P10
    isplitl [I10]; · iexact I10
    isplitl [S00]; · iexact S00
    isplitl [P00]; · iexact P00
    iexact I00
  iintro ⟨HO, U10, U00⟩
  try dsimp only
  rw [wp_bind]
  iapply (part5_run m K c h0 h1 h2 h3 h4) $$ [HO S20 P20 I20 Hq Hkv]
  · isplitr; · iexact Hrec
    isplitl [HO]; · iexact HO
    isplitl [S20]; · iexact S20
    isplitl [P20]; · iexact P20
    isplitl [I20]; · iexact I20
    isplitl [Hq]; · iexact Hq
    iexact Hkv
  iintro ⟨HO, U20, Hq, Hkv⟩
  try dsimp only
  rw [wp_bind]
  iapply (part6_run m c h0 h1 h2 h3 h4 _ _ _) $$ [Hkv Sb]
  · isplitl [Hkv]; · iexact Hkv
    iexact Sb
  iintro ⟨Hkv, Sb⟩
  try dsimp only
  rw [wp_bind]
  iapply (part7_run m K c h0 h1 h2 h3 h4 _ _ _ _ (stored1 m c f)) $$ [HO Hkv Sb P11 I11]
  · isplitr; · iexact Hrec
    isplitl [HO]; · iexact HO
    isplitl [Hkv]; · iexact Hkv
    isplitl [Sb]; · iexact Sb
    isplitl [P11]; · iexact P11
    iexact I11
  iintro ⟨HO, Hkv, S01, S21, Kb, U11⟩
  try dsimp only
  rw [wp_bind]
  ihave HR := (slotIn_all m c) $$ [HR Ka Kb]
  · isplitl [HR]; · iexact HR
    isplitl [Ka] <;> iassumption
  icases HR with ⟨⟨R00, R10, R20, R30⟩, R01, R11, R21, R31⟩
  iapply (part8_run m K c h0 h1 h2 h3 h4) $$ [HO S01 P01 I01 S21 P21 I21 R00]
  · isplitr; · iexact Hrec
    isplitl [HO]; · iexact HO
    isplitl [S01]; · iexact S01
    isplitl [P01]; · iexact P01
    isplitl [I01]; · iexact I01
    isplitl [S21]; · iexact S21
    isplitl [P21]; · iexact P21
    isplitl [I21]; · iexact I21
    iexact R00
  iintro ⟨HO, U01, U21, R00⟩
  try dsimp only
  rw [wp_bind]
  iapply (part9_run m K c h0 h1 h2 h3 h4 _) $$ [HO R00 R01 R10 R11]
  · isplitr; · iexact Hrec
    isplitl [HO]; · iexact HO
    isplitl [R00]; · iexact R00
    isplitl [R01]; · iexact R01
    isplitl [R10]; · iexact R10
    iexact R11
  iintro ⟨HO, R00, R01, R10, R11⟩
  try dsimp only
  rw [wp_bind]
  iapply (part10_run m K c h0 h1 h2 h3 h4 _ _) $$ [HO R20 R21 R30]
  · isplitr; · iexact Hrec
    isplitl [HO]; · iexact HO
    isplitl [R20]; · iexact R20
    isplitl [R21]; · iexact R21
    iexact R30
  iintro ⟨HO, R20, R21, R30⟩
  try dsimp only
  rw [wp_bind]
  iapply (part11_run m K c h0 h1 h2 h3 h4 _ _ _) $$ [HO R30 R31 Ho U10 U00]
  · isplitr; · iexact Hrec
    isplitl [HO]; · iexact HO
    isplitl [R30]; · iexact R30
    isplitl [R31]; · iexact R31
    isplitl [Ho]; · iexact Ho
    isplitl [U10]; · iexact U10
    iexact U00
  iintro ⟨HO, R30, R31, Ho, D10, D00⟩
  try dsimp only
  rw [wp_bind]
  iapply (part12_run m K c h0 h1 h2 h3 h4) $$ [HO U20 U11 U01]
  · isplitr; · iexact Hrec
    isplitl [HO]; · iexact HO
    isplitl [U20]; · iexact U20
    isplitl [U11]; · iexact U11
    iexact U01
  iintro ⟨HO, D20, D11, D01⟩
  simp only [Prog.lift, Prog.bind_op, Prog.bind_ret, Prog.pure_eq_ret]
  iapply (s_sendWait m K c 2 1 _ _ (slot_off c 1 _ (k0_off12_eq c) (k0_off12_inb c)) _ sS_21) $$ [HO U21]
  · isplitr; · iexact Hrec
    isplitl [HO] <;> iassumption
  iintro ⟨HO, D21⟩
  rw [wp_ret]
  imodintro
  iapply Hk
  unfold bodyOut
  isplitl [HO]; · iexact HO
  isplitl [Hq]; · iexact Hq
  isplitl [Hkv]; · iexact Hkv
  isplitl [Hw]; · iexact Hw
  isplitl [Ho]; · iexact Ho
  ihave H := (all_back m c) $$ [R00 R01 R10 R11 R20 R21 R30 R31 D00 D01 D10 D11 D20 D21]
  · isplitl [R00 R10 R20 R30]
    · isplitl [R00]; · iexact R00
      isplitl [R10]; · iexact R10
      isplitl [R20] <;> iassumption
    isplitl [R01 R11 R21 R31]
    · isplitl [R01]; · iexact R01
      isplitl [R11]; · iexact R11
      isplitl [R21] <;> iassumption
    isplitl [D00]; · iexact D00
    isplitl [D01]; · iexact D01
    isplitl [D10]; · iexact D10
    isplitl [D11]; · iexact D11
    isplitl [D20] <;> iassumption
  icases H with ⟨Hs, HS, HV⟩
  isplitl [Hs]; · iexists (G m); iexact Hs
  isplitl [Hb]; · iexact Hb
  isplitl [HS] <;> iassumption

end Run

end Cert.Exchange
-- ==== Proof.Region.lean ====
/- The kernel's region: what each device brings to it, what it leaves, and its record for the launch. -/
module

public import proofs.«01_k».proof.Proof.Whole
public import proofs.«01_k».proof.Proof.Gen.KernelIdeal.Points
public import Idealize.ShloMosaic.Lib.Pipeline.ValueKit.Geometry

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The fourteen scoped cells by their two kinds -/

def kSEmb : Fin 3 × Fin 2 ↪ Fin 14 := ⟨fun x => kS x.1 x.2, by decide⟩
def kREmb : Dev nD × Fin 2 ↪ Fin 14 := ⟨fun x => kR x.1 x.2, by decide⟩

/-- Over a device's scoped cells: over the send cells and over the receive cells. -/
theorem byKind (Φ : Fin 14 → sProp 𝕄) :
    bigSep Finset.univ Φ = iprop(bigSep Finset.univ (fun x : Fin 3 × Fin 2 => Φ (kS x.1 x.2)) ∗ bigSep Finset.univ (fun x : Dev nD × Fin 2 => Φ (kR x.1 x.2))) := by
  rw [show (Finset.univ : Finset (Fin 14)) = Finset.univ.map kSEmb ∪ Finset.univ.map kREmb from by decide,
    bigSep_union (by decide : Disjoint (Finset.univ.map kSEmb) (Finset.univ.map kREmb)), bigSep_map, bigSep_map]
  rfl

theorem sendCell_osem (c : Dev nD) (j : Fin 3) (b : Fin 2) : (((c : Thread nD τ), osem (kS j b)) : GSem nD τ sig) = sendCell c j b :=
  Prod.ext rfl (osem_kS j b)
theorem recvCell_osem (c o : Dev nD) (b : Fin 2) : (((c : Thread nD τ), osem (kR o b)) : GSem nD τ sig) = recvCell c o b :=
  Prod.ext rfl (osem_kR o b)

/-! ## What the launch deals to a device -/

/-- The copy tokens a device pays with: the send duty of its own cell, the receive duty of the peer's. -/
def sendToks (c : Dev nD) (j : Fin 3) (b : Fin 2) : sProp 𝕄 :=
  iprop(dutyTok ER (sendCell c j b) 0 0 ∗ dutyTok ER (recvCell (pr c j) c b) 0 0)
/-- The credit for the copy that lands in slot `o`. -/
def recvCred (c o : Dev nD) (b : Fin 2) : sProp 𝕄 := iprop(if o = c then emp else cred (tallyAt (recvCell c o b) () N))
/-- What only this device holds. -/
def mine (c : Dev nD) : sProp 𝕄 :=
  iprop(atPos ER (barCell c) 0 ∅ 0 ∗ bigSep Finset.univ (fun k : Fin 14 => openTok ER ((c : Thread nD τ), osem k))
    ∗ bigSep Finset.univ (fun j : Fin 3 => dutyTok ER (barCell (pr c j)) 0 j)
    ∗ bigSep Finset.univ (fun x : Fin 3 × Fin 2 => sendToks (F := F) c x.1 x.2))
/-- The credits for what the peers owe it. -/
def claims (c : Dev nD) : sProp 𝕄 :=
  iprop(cred (tallyAt (barCell c) () 3) ∗ bigSep Finset.univ (fun x : Dev nD × Fin 2 => recvCred (F := F) c x.1 x.2))
def Tk (c : Dev nD) : sProp 𝕄 := iprop((∃ K, records m K ∗ mine (F := F) c) ∗ claims (F := F) c)
def Xk (c : Dev nD) : sProp 𝕄 := iprop(∃ K, opened m K c)
def Yk (c : Dev nD) : sProp 𝕄 := semVal (barCell c) 0

/-- One scoped cell, opened. -/
theorem openOne (K : GSem nD τ sig → ℕ) (c : Dev nD) (k : Fin 14) :
    iprop(records m K ∗ (openTok ER ((c : Thread nD τ), osem k) ∗ semVal ((c : Thread nD τ), osem k) 0))
      ⊢ (|={Set.univ}=> iprop(atPos ER ((c : Thread nD τ), osem k) 0 ∅ 0 ∗ reached ER ((c : Thread nD τ), osem k) 0) : sProp 𝕄) := by
  iintro ⟨#Hrec, Ho, Hs⟩
  have hg : Membership.mem (barCells ∪ scCells : Finset (GSem nD τ sig)) (((c : Thread nD τ), osem k)) :=
    Finset.mem_union_right _ (Finset.mem_map.mpr ⟨(c, k), Finset.mem_univ _, rfl⟩)
  imod (Rounds.cell_open ER (Rd m) (g := ((c : Thread nD τ), osem k)) (Set.mem_univ (K ((c : Thread nD τ), osem k)))) $$ [Ho Hs] with ⟨Hat, #Hr⟩
  · isplitr; · iapply (inv_at m K hg); iexact Hrec
    isplitl [Ho] <;> iassumption
  imodintro
  isplitl [Hat]; · iexact Hat
  iexact Hr

/-- All of them. -/
theorem openAll (K : GSem nD τ sig → ℕ) (c : Dev nD) :
    iprop(records m K ∗ (bigSep Finset.univ (fun k : Fin 14 => openTok ER ((c : Thread nD τ), osem k)) ∗ Pipeline.ownSems0 osem c))
      ⊢ (|={Set.univ}=> bigSep Finset.univ (fun k : Fin 14 => iprop(atPos ER ((c : Thread nD τ), osem k) 0 ∅ 0 ∗ reached ER ((c : Thread nD τ), osem k) 0)) : sProp 𝕄) := by
  unfold Pipeline.ownSems0
  rw [← bigSep_sep']
  exact (bigSep_with_persistent (R := records m K) fun k _ => openOne m K c k).trans (BI.bigSep_fupd _ _)

/-- The send cells' positions beside the tokens. -/
theorem sendIns (c : Dev nD) :
    iprop(bigSep Finset.univ (fun x : Fin 3 × Fin 2 => iprop(atPos ER (sendCell c x.1 x.2) 0 ∅ 0 ∗ reached ER (sendCell c x.1 x.2) 0))
        ∗ bigSep Finset.univ (fun x : Fin 3 × Fin 2 => sendToks (F := F) c x.1 x.2))
      ⊢ (bigSep Finset.univ (fun x : Fin 3 × Fin 2 => sendIn c x.1 x.2) : sProp 𝕄) := by
  have h (x : Fin 3 × Fin 2) : iprop((atPos ER (sendCell c x.1 x.2) 0 ∅ 0 ∗ reached ER (sendCell c x.1 x.2) 0) ∗ sendToks (F := F) c x.1 x.2)
      ⊢ (sendIn c x.1 x.2 : sProp 𝕄) := by
    unfold sendIn sendToks
    iintro ⟨⟨Ha, Hr⟩, Hs, Ht⟩
    isplitl [Ha]; · iexact Ha
    isplitl [Hr]; · iexact Hr
    isplitl [Hs] <;> iassumption
  rw [← bigSep_sep']
  exact bigSep_mono fun x _ => h x

/-- The receive cells' positions beside the credits. -/
theorem recvIns (c : Dev nD) :
    iprop(bigSep Finset.univ (fun x : Dev nD × Fin 2 => iprop(atPos ER (recvCell c x.1 x.2) 0 ∅ 0 ∗ reached ER (recvCell c x.1 x.2) 0))
        ∗ bigSep Finset.univ (fun x : Dev nD × Fin 2 => recvCred (F := F) c x.1 x.2))
      ⊢ (bigSep Finset.univ (fun x : Dev nD × Fin 2 => iprop(recvIn c x.1 x.2 ∗ reached ER (recvCell c x.1 x.2) 0)) : sProp 𝕄) := by
  have h (x : Dev nD × Fin 2) : iprop((atPos ER (recvCell c x.1 x.2) 0 ∅ 0 ∗ reached ER (recvCell c x.1 x.2) 0) ∗ recvCred (F := F) c x.1 x.2)
      ⊢ (iprop(recvIn c x.1 x.2 ∗ reached ER (recvCell c x.1 x.2) 0) : sProp 𝕄) := by
    unfold recvIn recvCred
    iintro ⟨⟨Ha, Hr⟩, Hc⟩
    isplitl [Ha Hc]
    · isplitl [Ha] <;> iassumption
    iexact Hr
  rw [← bigSep_sep']
  exact bigSep_mono fun x _ => h x

/-- The region's entry: the scoped cells, at zero, are opened. -/
theorem open_all (c : Dev nD) : iprop(Tk m c ∗ Pipeline.ownSems0 osem c ∗ levAts L lv) ⊢ (|={Set.univ}=> Xk m c : sProp 𝕄) := by
  unfold Tk Xk mine claims
  iintro ⟨⟨⟨%K, #Hrec, Hat, Hop, Hb, Hst⟩, Hc, Hcr⟩, Hos, #Hlev⟩
  imod (openAll m K c) $$ [Hop Hos] with H
  · isplitr; · iexact Hrec
    isplitl [Hop] <;> iassumption
  ihave H := (Entails.of_eq (byKind (F := F) _)) $$ H
  icases H with ⟨HS, HR⟩
  imodintro
  iexists K
  unfold opened
  isplitr; · iexact Hrec
  isplitr; · iexact Hlev
  isplitl [Hat]; · iexact Hat
  isplitl [Hc]; · iexact Hc
  isplitl [Hb]; · iexact Hb
  isplitl [HS Hst]
  · iapply (sendIns (F := F) c)
    isplitl [HS]
    · iapply (Entails.of_eq (bigSep_congr fun x _ => by rw [sendCell_osem])) $$ HS
    iexact Hst
  · iapply (recvIns (F := F) c)
    isplitl [HR]
    · iapply (Entails.of_eq (bigSep_congr fun x _ => by rw [recvCell_osem])) $$ HR
    iexact Hcr

/-- The scoped cells back at zero. -/
theorem own_back (c : Dev nD) :
    iprop(bigSep Finset.univ (fun x : Fin 3 × Fin 2 => semVal (sendCell c x.1 x.2) 0) ∗ bigSep Finset.univ (fun x : Dev nD × Fin 2 => semVal (recvCell c x.1 x.2) 0))
      ⊢ (Pipeline.ownSems0 osem c : sProp 𝕄) := by
  unfold Pipeline.ownSems0
  rw [byKind]
  refine Entails.of_eq (congrArg₂ _ (bigSep_congr fun x _ => by rw [sendCell_osem]) (bigSep_congr fun x _ => by rw [recvCell_osem]))

/-! ## The proof data -/

/-- What the program's last valuation is: the result beside what the host left. -/
abbrev VE (c : Dev nD) : Valuation τ sig (Elt F) := Function.update (V1 m c) main_v20 (res m (stW m c))

/-- What the windows' arrays hold at entry and at exit, and the invariant at the region's two ends. -/
def dats (p : Fin 1) (c : Dev nD) : Dat τ (Elt F) Unit ℕ UU ℕ (cfgs p) c where
  A w := V1 m c (Proc.devRef .tc (Pipeline.arrRef spec0 w))
  after w _ := match w with
    | ⟨0, _⟩ => stQ m c
    | ⟨1, _⟩ => stK m c
    | ⟨2, _⟩ => stW m c
    | ⟨3, _⟩ => res m (stW m c)
    | ⟨_ + 4, h⟩ => absurd h (Nat.not_lt.2 (Nat.le_add_left _ _))
  Φ t := if t.val = 0 then
      iprop(Xk m c ∗ (∃ f, ((c : Thread nD τ).loc cc0_scratch0) ↦{fullShare} f) ∗ ∃ r, prngReg c r)
    else iprop((semVal (barCell c) 0 ∗ bigSep Finset.univ (fun x : Fin 3 × Fin 2 => semVal (sendCell c x.1 x.2) 0)
        ∗ bigSep Finset.univ (fun x : Dev nD × Fin 2 => semVal (recvCell c x.1 x.2) 0))
      ∗ (∃ f, ((c : Thread nD τ).loc cc0_scratch0) ↦{fullShare} f) ∗ ∃ r, prngReg c r)
  q _ := fullShare
  owed t := if t.val = 0 then O₀ c else 0

theorem owed_first (c : Dev nD) : (dats (F := F) m 0 c).owed t0_0.castSucc = O₀ c := by
  show (if (t0_0.castSucc : Fin (cfg0.N + 1)).val = 0 then O₀ c else 0) = O₀ c; exact if_pos rfl
theorem owed_zero (c : Dev nD) : (dats (F := F) m 0 c).owed 0 = O₀ c := by
  show (if ((0 : Fin (cfg0.N + 1)).val = 0) then O₀ c else 0) = O₀ c; exact if_pos rfl
theorem owed_last (c : Dev nD) : (dats (F := F) m 0 c).owed (Fin.last _) = 0 := by
  show (if (Fin.last cfg0.N).val = 0 then O₀ c else 0) = 0
  rw [Fin.val_last, if_neg (by rw [show cfg0.N = 1 from N_0]; decide)]

theorem share_eq (c : Dev nD) (w : Fin cfg0.W) : (dats (F := F) m 0 c).share w = fullShare := by unfold Dat.share; split <;> rfl

/-- The staged inputs the body finds. -/
theorem before0 (c : Dev nD) (d) : (dats (F := F) m 0 c).before (0 : Fin 4) t0_0 d = stQ m c := by
  rw [(dats (F := F) m 0 c).before_fetched _ _ (fetch0_0 _)]
  unfold Dat.fetched Dat.blockOf; dsimp only [dats]
  show (fun i => stQ m c (((win0 0).rect t0_0).emb i)) = stQ m c
  funext i
  exact congrArg _ (funext fun a => Fin.ext (Pipeline.Window.rect_emb_val_of_index_zero _ _ _ rfl _))
theorem before1 (c : Dev nD) (d) : (dats (F := F) m 0 c).before (1 : Fin 4) t0_0 d = stK m c := by
  rw [(dats (F := F) m 0 c).before_fetched _ _ (fetch0_1 _)]
  unfold Dat.fetched Dat.blockOf; dsimp only [dats]
  show (fun i => stK m c (((win0 1).rect t0_0).emb i)) = stK m c
  funext i
  exact congrArg _ (funext fun a => Fin.ext (Pipeline.Window.rect_emb_val_of_index_zero _ _ _ rfl _))
theorem before2 (c : Dev nD) (d) : (dats (F := F) m 0 c).before (2 : Fin 4) t0_0 d = stW m c := by
  rw [(dats (F := F) m 0 c).before_fetched _ _ (fetch0_2 _)]
  unfold Dat.fetched Dat.blockOf; dsimp only [dats]
  show (fun i => stW m c (((win0 2).rect t0_0).emb i)) = stW m c
  funext i
  exact congrArg _ (funext fun a => Fin.ext (Pipeline.Window.rect_emb_val_of_index_zero _ _ _ rfl _))

/-- The result array after the region: the block the body left. -/
theorem final3 (c : Dev nD) : (dats (F := F) m 0 c).arrAt (3 : Fin 4) cfg0.N = res m (stW m c) :=
  (dats (F := F) m 0 c).arrAt_eq_of_after_last (3 : Fin 4) t0_0 (by decide +kernel) _ (fun j => rfl)

/-! ## The body's obligation -/

theorem owes_in {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ) :
    (ow c O : sProp 𝕄) ⊢ dat.owesAt () t := by
  unfold ow Dat.owesAt Pipeline.owesWithin Dat.bound; rw [h, hr]
  iintro ⟨%W, HO⟩; iexists W; isplitr; · ipureintro; exact fun _ _ => Or.inl trivial
  iexact HO
theorem owes_out {cfg : Pipeline.Cfg sig Λ₀} {c : Dev nD} (dat : Dat τ (Elt F) Unit ℕ UU ℕ cfg c) (t : Fin (cfg.N + 1))
    (O : CellTallies nD τ sig Unit) (h : dat.owed t = O) :
    (dat.owesAt () t : sProp 𝕄) ⊢ ow c O := by
  unfold ow Dat.owesAt Pipeline.owesWithin; rw [h]
  iintro ⟨%W, -, HO⟩; iexists W; iexact HO

/-- A whole staging buffer at named contents. -/
theorem stg_in (c : Dev nD) (b : Ref sig .tc) (X Y : b.ty.Contents (Elt F)) (h : X = Y) :
    (owns (c : Thread nD τ) (Memref.whole b) fullShare X : sProp 𝕄) ⊢ (((c : Thread nD τ).loc b) ↦{fullShare} Y) := by
  subst h; exact Entails.of_eq (owns_whole (c : Thread nD τ) b fullShare X)
theorem stg_out (c : Dev nD) (b : Ref sig .tc) (X : b.ty.Contents (Elt F)) :
    (((c : Thread nD τ).loc b) ↦{fullShare} X : sProp 𝕄) ⊢ owns (c : Thread nD τ) (Memref.whole b) fullShare X :=
  Entails.of_eq (owns_whole (c : Thread nD τ) b fullShare X).symm

set_option maxRecDepth 4000 in
/-- The body meets its obligation at the region's one point. -/
theorem body_ok (c : Dev nD) : BodyObligation (dats (F := F) m 0 c) (defs₀ (F := F)) 𝒱₀ () Set.univ := fun t => by
  obtain rfl := fin_N0 t
  rw [bigSep_W0, bigSep_W0]
  rw [show (dats (F := F) m 0 c).Φ t0_0.castSucc = iprop(Xk m c ∗ (∃ f, ((c : Thread nD τ).loc cc0_scratch0) ↦{fullShare} f) ∗ ∃ r, prngReg c r) from rfl,
    show (dats (F := F) m 0 c).Φ t0_0.succ = iprop((semVal (barCell c) 0 ∗ bigSep Finset.univ (fun x : Fin 3 × Fin 2 => semVal (sendCell c x.1 x.2) 0)
        ∗ bigSep Finset.univ (fun x : Dev nD × Fin 2 => semVal (recvCell c x.1 x.2) 0))
      ∗ (∃ f, ((c : Thread nD τ).loc cc0_scratch0) ↦{fullShare} f) ∗ ∃ r, prngReg c r) from rfl]
  unfold Xk
  iintro ⟨⟨⟨%K, Hg⟩, Hs, Hp⟩, HO, ⟨%d0, H0⟩, ⟨%d1, H1⟩, ⟨%d2, H2⟩, ⟨%d3, H3⟩⟩
  ihave HO := (owes_out (dats m 0 c) _ (O₀ c) (owed_first m c)) $$ HO
  ihave H0 := (stg_in c cc0_stg0_0 _ _ (before0 m c d0)) $$ H0
  ihave H1 := (stg_in c cc0_stg1_0 _ _ (before1 m c d1)) $$ H1
  ihave H2 := (stg_in c cc0_stg2_0 _ _ (before2 m c d2)) $$ H2
  ihave H3 := (stg_in c cc0_stg3_0 _ _ rfl) $$ H3
  iapply (body_run m K c _ _ _ _ _) $$ [Hg HO H0 H1 H2 H3 Hs]
  · unfold bodyIn
    isplitl [Hg]; · iexact Hg
    isplitl [HO]; · iexact HO
    isplitl [H0]; · iexact H0
    isplitl [H1]; · iexact H1
    isplitl [H2]; · iexact H2
    isplitl [H3]; · iexists _; iexact H3
    iexact Hs
  unfold bodyOut
  iintro ⟨HO, H0, H1, H2, H3, Hs, Hb, HS, HR⟩
  isplitl [Hb HS HR Hs Hp]
  · isplitl [Hb HS HR]
    · isplitl [Hb]; · iexact Hb
      isplitl [HS] <;> iassumption
    isplitl [Hs] <;> iassumption
  isplitl [HO]; · iapply (owes_in (dats m 0 c) t0_0.succ 0 (owed_last m c) rfl); iexact HO
  isplitl [H0]; · iapply (stg_out c cc0_stg0_0 _); iexact H0
  isplitl [H1]; · iapply (stg_out c cc0_stg1_0 _); iexact H1
  isplitl [H2]; · iapply (stg_out c cc0_stg2_0 _); iexact H2
  iapply (stg_out c cc0_stg3_0 _); iexact H3

end Cert.Exchange
-- ==== Proof.Launch.lean ====
/- The launch: the ghost state dealt to the devices, the region's record, and the run of the whole program. -/
module

public import proofs.«01_k».proof.Proof.Region

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The region's record -/

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The buffers no window stages. -/
abbrev others : Finset (DevRef τ sig) := Pipeline.ucRefs τ sig \ Pipeline.arrRefs (τ := τ) spec0

theorem arrs_sub : Pipeline.arrRefs (τ := τ) spec0 ⊆ Pipeline.ucRefs τ sig := Pipeline.arrRefs_sub_ucRefs spec0 (by decide)

theorem cut (c : Dev nD) (t : Fin ((Pipeline.pin (pcfgs (F := F)) adm 0).N + 1)) (g : GSem nD τ sig) (i : Unit) (h : 0 < (dats (F := F) m 0 c).owed t g i) :
    Membership.mem (L g) i ∧ (0 : ℕ) < lv g i := by
  have e : (dats (F := F) m 0 c).owed t = if t.val = 0 then O₀ c else 0 := rfl
  rw [e] at h
  split at h
  · rcases O₀_pos h with ⟨j, rfl⟩ | ⟨j, b, rfl⟩
    · exact ⟨by rw [L_tc]; exact Finset.mem_singleton_self _, by rw [lv_bar]; decide⟩
    · exact ⟨by rw [L_tc]; exact Finset.mem_singleton_self _, by rw [lv_recv]; decide⟩
  · exact absurd h (Nat.lt_irrefl 0)

theorem held_none (c : Dev nD) (W : Valuation τ sig (Elt F)) : (StableHlo.held (c : Thread nD τ) ∅ W : sProp 𝕄) = BI.emp := by
  unfold StableHlo.held; exact BI.bigSep_empty

theorem enter (c : Dev nD) : iprop(Pipeline.scopedRest (Pipeline.pin (pcfgs (F := F)) adm 0).spec c ∗ (∃ r, prngReg c r) ∗ StableHlo.held (c.tc : Thread nD τ) ∅ (V1 m c) ∗ Xk m c)
    ⊢ (dats m 0 c).Φ 0 := by
  rw [show (dats m 0 c).Φ 0 = iprop(Xk m c ∗ (∃ f, ((c : Thread nD τ).loc cc0_scratch0) ↦{fullShare} f) ∗ ∃ r, prngReg c r) from rfl, scopedRest0_eq]
  iintro ⟨Hs, Hp, -, HX⟩
  isplitl [HX]; · iexact HX
  isplitl [Hs] <;> iassumption

theorem leave (c : Dev nD) : (dats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (VE m c) ∗ Pipeline.ownSems0 osem c ∗ Yk c) := by
  rw [show (dats m 0 c).Φ (Fin.last _) = iprop((semVal (barCell c) 0 ∗ bigSep Finset.univ (fun x : Fin 3 × Fin 2 => semVal (sendCell c x.1 x.2) 0)
        ∗ bigSep Finset.univ (fun x : Dev nD × Fin 2 => semVal (recvCell c x.1 x.2) 0))
      ∗ (∃ f, ((c : Thread nD τ).loc cc0_scratch0) ↦{fullShare} f) ∗ ∃ r, prngReg c r) from rfl, scopedRest0_eq, held_none]
  unfold Yk
  iintro ⟨⟨Hb, HS, HR⟩, Hs, Hp⟩
  isplitl [Hs]; · iexact Hs
  isplitl [Hp]; · iexact Hp
  isplitr; · iempintro
  isplitl [HS HR]
  · iapply (own_back (F := F) c); isplitl [HS] <;> iassumption
  iexact Hb

theorem arr_in (c : Dev nD) (w : Fin 4) : (dats m 0 c).arrAt w 0 = V1 m c (Proc.devRef .tc (Pipeline.arrRef spec0 w)) := rfl

theorem VE_ne (c : Dev nD) (r : Ref sig .tc) (h : r ≠ main_v20) : VE m c r = V1 m c r :=
  Function.update_of_ne (StableHlo.devRef_ne_of_ne h) _ _
theorem VE_res (c : Dev nD) : VE m c main_v20 = res m (stW m c) := Function.update_self _ _ _

theorem arr_out (c : Dev nD) (w : Fin 4) :
    (dats m 0 c).arrAt w (Pipeline.pin (pcfgs (F := F)) adm 0).N = VE m c (Proc.devRef .tc (Pipeline.arrRef spec0 w)) := by
  fin_cases w
  · exact ((dats m 0 c).arrAt_in (0 : Fin 4) rfl _).trans (VE_ne m c main_v14 (by decide)).symm
  · exact ((dats m 0 c).arrAt_in (1 : Fin 4) rfl _).trans (VE_ne m c main_v19 (by decide)).symm
  · exact ((dats m 0 c).arrAt_in (2 : Fin 4) rfl _).trans (VE_ne m c main_arg4 (by decide)).symm
  · exact (final3 m c).trans (VE_res m c).symm

theorem rest_same (c : Dev nD) : ∀ b ∈ others \ ∅, VE m c b = V1 m c b := fun b hb => by
  refine Function.update_of_ne (fun h => ?_) _ _
  subst h
  exact (Finset.mem_sdiff.mp (Finset.mem_sdiff.mp hb).1).2
    (Finset.mem_map.mpr ⟨main_v20, Finset.mem_image.mpr ⟨(3 : Fin 4), Finset.mem_univ _, rfl⟩, rfl⟩)

set_option backward.isDefEq.respectTransparency.types false in
/-- The region, as the launch enters and leaves it. -/
def region : Pipeline.RegionSeg (pcfgs (F := F)) adm (dats m) () defs₀ 𝒱₀ L lv 0 :=
  Pipeline.RegionSeg.ofTalk (pcfgs (F := F)) adm (dats m) () defs₀ 𝒱₀ L lv 0 osem (by decide : Pipeline.OwnSemFacts spec0 osem)
    ∅ others (Finset.empty_subset _) kit rfl (fun c => (body_ok m c).loose)
    (fun _ => 0) O₀ (fun c => (owed_zero m c).trans (zero_add _).symm) (owed_last m) (fun _ => rfl) (share_eq m)
    (V1 m) (VE m) (rest_same m)
    (Tk m) Yk (Xk m) Yk (open_all m) (enter m) (leave m)
    (fun c => by iintro H; imodintro; iexact H)
    (fun _ => 0)
    ⟨fun c w s => by rw [L_tc]; exact Finset.mem_singleton_self _,
      fun c w s => by fin_cases w <;> fin_cases s <;> exact le_refl 0,
      fun c t g i h => cut m c t g i h⟩
    (fun _ => iprop(emp))
    (arr_in m) (arr_out m)

/-- What a device brings to the region beside its buffers. -/
def E0 (c : Dev nD) : sProp 𝕄 := iprop((∃ r, prngReg c r) ∗ Tk m c ∗ ow (F := F) c (O₀ c))

theorem region_pre (c : Dev nD) : iprop(StableHlo.held (c : Thread nD τ) (Pipeline.ucRefs τ sig) (V1 m c) ∗ E0 m c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + O₀ c) Wd)
  rw [zero_add, StableHlo.held_sub_split (c.tc : Thread nD τ) arrs_sub (V1 m c)]
  unfold E0 ow
  iintro ⟨⟨Ha, Hh⟩, Hp, HT, HO⟩
  isplitl [Ha]; · iexact Ha
  isplitl [Hp]; · iexact Hp
  isplitl [Hh]
  · isplitl [Hh]; · iexact Hh
    iempintro
  isplitl [HT] <;> iassumption

theorem region_post (c : Dev nD) : (region m).post c
    ⊢ iprop((StableHlo.held (c : Thread nD τ) (Pipeline.ucRefs τ sig) (VE m c) ∗ semVal (barCell c) 0) ∗ ∃ W, owes (c : Thread nD τ) (0 : CellTallies nD τ sig Unit) W) := by
  show iprop(StableHlo.held (c.tc : Thread nD τ) (Pipeline.arrRefs (τ := τ) spec0) (VE m c) ∗ (∃ r, prngReg c r)
    ∗ (StableHlo.held (c.tc : Thread nD τ) others (VE m c) ∗ emp) ∗ Yk c ∗ ∃ Wd, owes (c : Thread nD τ) (0 : CellTallies nD τ sig Unit) Wd) ⊢ _
  rw [StableHlo.held_sub_split (c.tc : Thread nD τ) arrs_sub (VE m c)]
  unfold Yk
  iintro ⟨Ha, -, ⟨Hh, -⟩, Hb, HO⟩
  isplitr [HO]
  · isplitl [Ha Hh]
    · isplitl [Ha] <;> iassumption
    iexact Hb
  iexact HO

/-! ## The tokens -/

theorem pr_inj (c : Dev nD) {j j' : Fin 3} (h : pr c j = pr c j') : j = j' := by revert c j j'; decide
theorem rS_inj {o o' : Dev nD} {b b' : Fin 2} (h : rS o b = rS o' b') : o = o' ∧ b = b' := by revert o o' b b'; decide
theorem sS_inj {j j' : Fin 3} {b b' : Fin 2} (h : sS j b = sS j' b') : j = j' ∧ b = b' := by revert j j' b b'; decide
theorem dev_of {c c' : Dev nD} {s s' : SemLoc sig} (h : ((((c : Thread nD τ), s) : GSem nD τ sig)) = (((c' : Thread nD τ), s') : GSem nD τ sig)) : c = c' :=
  congrArg (fun g : GSem nD τ sig => g.1.1) h
theorem sem_of {c c' : Dev nD} {s s' : SemLoc sig} (h : ((((c : Thread nD τ), s) : GSem nD τ sig)) = (((c' : Thread nD τ), s') : GSem nD τ sig)) : s = s' :=
  congrArg Prod.snd h

/-- The barrier duties, each named by the device that pays it. -/
def barTok : Dev nD × Fin 3 ↪ GSem nD τ sig × ℕ × Fin 3 := ⟨fun x => (barCell (pr x.1 x.2), 0, x.2), fun x y h => by
  obtain ⟨c, j⟩ := x; obtain ⟨c', j'⟩ := y
  have hj : j = j' := congrArg (fun t : GSem nD τ sig × ℕ × Fin 3 => t.2.2) h
  subst hj
  have hc : pr c j = pr c' j := dev_of (congrArg Prod.fst h)
  rw [(turn j).injective hc]⟩
/-- The send duties. -/
def sendTok : Dev nD × (Fin 3 × Fin 2) ↪ GSem nD τ sig × ℕ × Fin 3 := ⟨fun x => (sendCell x.1 x.2.1 x.2.2, 0, 0), fun x y h => by
  obtain ⟨c, j, b⟩ := x; obtain ⟨c', j', b'⟩ := y
  have hc : c = c' := dev_of (congrArg Prod.fst h)
  obtain ⟨rfl, rfl⟩ := sS_inj (SemLoc.dma.inj (sem_of (congrArg Prod.fst h)))
  rw [hc]⟩
/-- The receive duties, each named by the device that pays it. -/
def recvTok : Dev nD × (Fin 3 × Fin 2) ↪ GSem nD τ sig × ℕ × Fin 3 := ⟨fun x => (recvCell (pr x.1 x.2.1) x.1 x.2.2, 0, 0), fun x y h => by
  obtain ⟨c, j, b⟩ := x; obtain ⟨c', j', b'⟩ := y
  have hc : pr c j = pr c' j' := dev_of (congrArg Prod.fst h)
  obtain ⟨rfl, rfl⟩ := rS_inj (SemLoc.dma.inj (sem_of (congrArg Prod.fst h)))
  rw [pr_inj c hc]⟩

def copyToks : Finset (GSem nD τ sig × ℕ × Fin 3) := Finset.univ.map sendTok ∪ Finset.univ.map recvTok
def allToks : Finset (GSem nD τ sig × ℕ × Fin 3) := Finset.univ.map barTok ∪ copyToks

theorem copy_disj : Disjoint (Finset.univ.map sendTok) (Finset.univ.map recvTok) := by
  rw [Finset.disjoint_left]
  rintro t h₁ h₂
  obtain ⟨⟨c, j, b⟩, -, rfl⟩ := Finset.mem_map.mp h₁
  obtain ⟨⟨c', j', b'⟩, -, h⟩ := Finset.mem_map.mp h₂
  have e : rS c' b' = sS j b := SemLoc.dma.inj (sem_of (congrArg Prod.fst h))
  have := rS_val c' b'; have := (sS_val j b).2; rw [e] at *; omega
theorem bar_disj : Disjoint (Finset.univ.map barTok) copyToks := by
  rw [Finset.disjoint_left]
  rintro t h₁ h₂
  obtain ⟨⟨c, j⟩, -, rfl⟩ := Finset.mem_map.mp h₁
  rcases Finset.mem_union.mp h₂ with h₂ | h₂
  · obtain ⟨⟨c', j', b'⟩, -, h⟩ := Finset.mem_map.mp h₂
    have := sem_of (congrArg Prod.fst h); cases this
  · obtain ⟨⟨c', j', b'⟩, -, h⟩ := Finset.mem_map.mp h₂
    have := sem_of (congrArg Prod.fst h); cases this

/-- The tokens, device by device. -/
theorem toks_dealt : (bigSep allToks (fun x => (dutyTok ER x.1 x.2.1 x.2.2 : sProp 𝕄)))
    ⊢ bigSep Finset.univ (fun c : Dev nD => iprop(bigSep Finset.univ (fun j : Fin 3 => dutyTok ER (barCell (pr c j)) 0 j)
      ∗ bigSep Finset.univ (fun x : Fin 3 × Fin 2 => sendToks (F := F) c x.1 x.2))) := by
  unfold allToks
  rw [bigSep_union bar_disj]
  unfold copyToks
  rw [bigSep_union copy_disj, bigSep_map, bigSep_map, bigSep_map, bigSep_univ_prod, bigSep_univ_prod, bigSep_univ_prod]
  have e : (fun c : Dev nD => iprop(bigSep Finset.univ (fun j : Fin 3 => dutyTok ER (barCell (pr c j)) 0 j)
      ∗ bigSep Finset.univ (fun x : Fin 3 × Fin 2 => sendToks (F := F) c x.1 x.2)))
    = fun c : Dev nD => (iprop(bigSep Finset.univ (fun j : Fin 3 => dutyTok ER (barCell (pr c j)) 0 j)
      ∗ (bigSep Finset.univ (fun x : Fin 3 × Fin 2 => dutyTok ER (sendCell c x.1 x.2) 0 0)
        ∗ bigSep Finset.univ (fun x : Fin 3 × Fin 2 => dutyTok ER (recvCell (pr c x.1) c x.2) 0 0))) : sProp 𝕄) :=
    funext fun c => by unfold sendToks; rw [bigSep_sep']
  rw [e, bigSep_sep', bigSep_sep']
  exact BI.Entails.refl _

/-! ## The launch credit -/

theorem bar_iff (c c' : Dev nD) : Iff (barCell c = barCell c') (c = c') := ⟨fun h => dev_of h, fun h => by rw [h]⟩
theorem bar_ne_recv (c c' o : Dev nD) (b : Fin 2) : barCell c ≠ recvCell c' o b := fun h => by have := sem_of h; cases this
theorem recv_iff (c c' o o' : Dev nD) (b b' : Fin 2) : Iff (recvCell c o b = recvCell c' o' b') (c = c' ∧ o = o' ∧ b = b') :=
  ⟨fun h => ⟨dev_of h, rS_inj (SemLoc.dma.inj (sem_of h))⟩, fun ⟨h1, h2, h3⟩ => by rw [h1, h2, h3]⟩

def barDue (d c : Dev nD) : ℕ := if c = d then 0 else 1
def recvDue (d c o : Dev nD) (b : Fin 2) : ℕ := if o = d ∧ o ≠ c then 1 else 0

theorem owed_bar (d c : Dev nD) : O₀ d (barCell c) () = barDue d c := by
  unfold O₀ o8 o7 o6 o5 o4 o3 o2 o1
  simp only [Pi.add_apply, Finsupp.add_apply, Pi.zero_apply, Finsupp.zero_apply, tallyAt_apply, bar_iff, bar_ne_recv, false_and, if_false, and_true, Nat.zero_add]
  revert d c; decide

theorem owed_recv (d c o : Dev nD) (b : Fin 2) : O₀ d (recvCell c o b) () = recvDue d c o b * N := by
  unfold O₀ o8 o7 o6 o5 o4 o3 o2 o1
  simp only [Pi.add_apply, Finsupp.add_apply, Pi.zero_apply, Finsupp.zero_apply, tallyAt_apply, recv_iff, (bar_ne_recv _ _ _ _).symm, false_and, if_false, and_true, Nat.zero_add, Nat.add_zero]
  generalize N = n
  rw [show ∀ p : Prop, ∀ [Decidable p], (if p then n else 0) = (if p then 1 else 0) * n from fun p _ => by split <;> simp]
  simp only [show ∀ (p : Prop) [Decidable p], (if p then n else 0) = (if p then 1 else 0) * n from fun p _ => by split <;> simp, ← Nat.add_mul]
  congr 1
  revert d c o b; decide

theorem sum_bar (c : Dev nD) : (∑ d : Dev nD, barDue d c) = 3 := by revert c; decide
theorem sum_recv (c o : Dev nD) (b : Fin 2) (h : o ≠ c) : (∑ d : Dev nD, recvDue d c o b) = 1 := by revert c o b; decide

theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, sum_bar]
theorem credit_recv (c o : Dev nD) (b : Fin 2) (h : o ≠ c) :
    tallyOn (recvCell c o b) (launchCredit (Pipeline.owing O₀) 0 (recvCell c o b)) = (tallyAt (recvCell c o b) () N : CellTallies nD τ sig Unit) := by
  unfold tallyAt; refine congrArg _ (Finsupp.ext fun u => ?_); cases u
  rw [Pipeline.launchCredit_owing, Finsupp.single_eq_same, Finset.sum_congr rfl fun d _ => owed_recv d c o b, ← Finset.sum_mul, sum_recv c o b h, Nat.one_mul]

/-- A device's launch credit covers what it will wait for. -/
theorem credits (c : Dev nD) : (Pipeline.launchCred O₀ c : sProp 𝕄) ⊢ claims (F := F) c := by
  unfold Pipeline.launchCred claims
  rw [bigSep_univ_at _ (SemLoc.reg barS), credit_bar]
  refine sep_mono_right ?_
  have hs : Finset.univ.map ⟨osem, osem_inj⟩ ⊆ Finset.univ.erase (SemLoc.reg barS : SemLoc sig) := fun s hs => by
    obtain ⟨k, -, rfl⟩ := Finset.mem_map.mp hs
    exact Finset.mem_erase.mpr ⟨fun h => (by unfold osem at h; cases h), Finset.mem_univ _⟩
  have h (x : Dev nD × Fin 2) : (cred (tallyOn ((c.tc : Thread nD τ), osem (kR x.1 x.2)) (launchCredit (Pipeline.owing O₀) 0 ((c.tc : Thread nD τ), osem (kR x.1 x.2)))) : sProp 𝕄)
      ⊢ recvCred (F := F) c x.1 x.2 := by
    unfold recvCred
    rw [recvCell_osem]
    by_cases h : x.1 = c
    · rw [if_pos h]; iintro -; iempintro
    · rw [if_neg h, credit_recv c x.1 x.2 h]
  refine (bigSep_subset hs).trans ?_
  rw [bigSep_map, byKind]
  exact BI.Entails.trans (sep_elim_right (PROP := sProp 𝕄)) (bigSep_mono fun x _ => h x)

/-! ## The run -/

/-- The launch element: the pipeline's own, and the protocol's. -/
def u₀ : UU :=
  (initOf (Pipeline.cells (Pipeline.pin (pcfgs (F := F)) adm) cellOf_inj) (Pipeline.launchToks (Pipeline.pin (pcfgs (F := F)) adm) cellOf_inj),
    launchOf barCells scCells allToks)

/-- The protocol's launch element, kept whole on device 0 until all devices' shares are dealt. -/
def parked (c : Dev nD) : sProp 𝕄 := if c = 0 then BI.own (ER (launchOf barCells scCells allToks)) else iprop(emp)
theorem parked_all : bigSep Finset.univ (parked (F := F)) = BI.own (ER (launchOf barCells scCells allToks)) := by
  rw [inOrder]
  unfold parked
  rw [if_pos rfl, if_neg (by decide), if_neg (by decide), if_neg (by decide)]
  refine (congrArg _ ?_).trans (BI.equiv_iff.mp sep_emp)
  exact (congrArg _ (BI.equiv_iff.mp sep_emp)).trans (BI.equiv_iff.mp sep_emp)

theorem cells_disj : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  have h' : osem ck.2 = SemLoc.reg barS := congrArg Prod.snd h
  unfold osem at h'; cases h'

theorem unscoped_bar : ∀ sm : SemLoc sig, sm.isScoped .tc = false → sm = .reg barS := by decide
theorem unscoped_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- A device's own launch holdings, less the protocol's. -/
def plain (c : Dev nD) : sProp 𝕄 :=
  iprop(StableHlo.held (c : Thread nD τ) (Pipeline.ucRefs τ sig) (V0 m c) ∗ (∃ r, prngReg c r) ∗ claims (F := F) c ∗ ow (F := F) c (O₀ c))
/-- What the host stretch starts from. -/
abbrev T₀ (c : Dev nD) : sProp 𝕄 := iprop(StableHlo.held (c : Thread nD τ) (Pipeline.ucRefs τ sig) (V0 m c) ∗ E0 m c)

theorem T₀_of (K : GSem nD τ sig → ℕ) (c : Dev nD) : iprop(records m K ∗ (mine (F := F) c ∗ plain m c)) ⊢ T₀ m c := by
  unfold plain T₀ E0 Tk
  iintro ⟨#HR, Hm, Hh, Hp, Hc, HO⟩
  isplitl [Hh]; · iexact Hh
  isplitl [Hp]; · iexact Hp
  isplitr [HO]
  · isplitl [Hm]
    · iexists K
      isplitr; · iexact HR
      iexact Hm
    iexact Hc
  iexact HO

variable (ρ : Dev nD → PrngReg)

theorem core_start (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ parked (F := F) c)
    ⊢ (iprop(plain m c ∗ (semVal (barCell c) 0 ∗ parked (F := F) c)) : sProp 𝕄) := by
  rw [show unscopedBufs c (fun b => m ((c.tc : Thread nD τ).loc b)) = StableHlo.held (c : Thread nD τ) (Pipeline.ucRefs τ sig) (V0 m c)
      from Pipeline.unscopedBufs_held c (V0 m c), unscoped_eq]
  unfold plain ow
  iintro ⟨Hh, Hus, HO, Hcr, Hp, HG⟩
  ihave Hc := (credits (F := F) c) $$ Hcr
  isplitl [Hh Hc HO Hp]
  · isplitl [Hh]; · iexact Hh
    isplitl [Hp]; · iexists (ρ c); iexact Hp
    isplitl [Hc]; · iexact Hc
    iexists ∅; iexact HO
  isplitl [Hus] <;> iassumption

/-- A family of pairs as two families, and back. -/
theorem apart {Φ Ψ : Dev nD → sProp 𝕄} :
    bigSep Finset.univ (fun c => iprop(Φ c ∗ Ψ c)) ⊢ iprop(bigSep Finset.univ Φ ∗ bigSep Finset.univ Ψ) :=
  Entails.of_eq (bigSep_sep' _ _ _)
theorem together {Φ Ψ : Dev nD → sProp 𝕄} :
    iprop(bigSep Finset.univ Φ ∗ bigSep Finset.univ Ψ) ⊢ bigSep Finset.univ (fun c => iprop(Φ c ∗ Ψ c)) :=
  Entails.of_eq (bigSep_sep' _ _ _).symm

/-- The launch's first state on every device. -/
theorem start_all :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked (F := F) c)) ∗ levAts L lv)
      ⊢ (|={Set.univ}=> bigSep Finset.univ (T₀ m) : sProp 𝕄) := by
  have hcore : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked (F := F) c))
      ⊢ (bigSep Finset.univ fun c : Dev nD => iprop(plain m c ∗ (semVal (barCell c) 0 ∗ parked (F := F) c)) : sProp 𝕄) :=
    bigSep_mono fun c _ => core_start m ρ c
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 14 => (openTok ER ((c : Thread nD τ), osem k) : sProp 𝕄)) :=
    Entails.of_eq (by rw [bigSep_map, bigSep_univ_prod]; rfl)
  iintro ⟨H, -⟩
  ihave H := hcore $$ H
  ihave H := apart $$ H; icases H with ⟨HB, H⟩
  ihave H := apart $$ H; icases H with ⟨Hv, HG⟩
  ihave Hu := (Entails.of_eq (parked_all (F := F))) $$ HG
  imod (Rounds.fund_launch ER (Rd m) cells_disj (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(mine (F := F) c ∗ plain m c)) fun c _ => T₀_of m K c)
  isplitr
  · unfold records
    isplitr; · iexact Hinv
    iexact Hr
  iapply together
  isplitr [HB]
  · unfold mine
    iapply together; isplitl [Hat]; · iapply hat $$ Hat
    iapply together; isplitl [Hopen]; · iapply hop $$ Hopen
    iapply (toks_dealt (F := F)) $$ Htok
  · iexact HB

/-- A buffer the host and the region keep. -/
theorem kept (c : Dev nD) (r : Ref sig .tc) (h : r ∉ hostOps0_W) (h' : r ≠ main_v20) : VE m c r = m ((c.tc : Thread nD τ).loc r) :=
  (VE_ne m c r h').trans ((V1_of m c r h).trans rfl)

/-- What a device's memory holds at the end. -/
def ends (c : Dev nD) (s : MemSt nD τ sig (Elt F)) : Prop :=
  s.mem ((c.tc : Thread nD τ).loc main_v20) = res m (stW m c)
  ∧ s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)

/-- The end, read off the buffers held. -/
theorem read_end (c : Dev nD) (s' : Phys nD τ sig (Elt F)) :
    iprop((StableHlo.held (c : Thread nD τ) (Pipeline.ucRefs τ sig) (VE m c) ∗ semVal (barCell c) 0) ∗ SI s')
      ⊢ (|={Set.univ}=> iprop(⌜ends m c s'.mem ∧ s'.mem.sem (barCell c) = 0⌝ ∗ SI s') : sProp 𝕄) := by
  unfold StableHlo.held
  iintro ⟨⟨Hh, Hb⟩, HSI⟩
  icombine HSI Hb gives %hb
  ihave Hr := (pointsTo_read_all (Pipeline.ucRefs τ sig) (fun b => ((c : Thread nD τ).1, b)) (VE m c) s') $$ [Hh HSI]
  · isplitl [Hh] <;> iassumption
  icases Hr with ⟨%h, HSI⟩
  imodintro
  isplitr
  · ipureintro
    have hr (r : Ref sig .tc) (hs : r.isScoped = false) : s'.mem.mem ((c.tc : Thread nD τ).loc r) = VE m c r :=
      h (Proc.devRef .tc r) (Finset.mem_filter.mpr ⟨StableHlo.devRef_mem_tcRefs r, by rw [Bool.not_eq_true]; exact hs⟩)
    exact ⟨⟨(hr main_v20 rfl).trans (VE_res m c), (hr main_arg0 rfl).trans (kept m c _ (by decide) (by decide)),
      (hr main_arg1 rfl).trans (kept m c _ (by decide) (by decide)), (hr main_arg2 rfl).trans (kept m c _ (by decide) (by decide)),
      (hr main_arg3 rfl).trans (kept m c _ (by decide) (by decide)), (hr main_arg4 rfl).trans (kept m c _ (by decide) (by decide))⟩, by simpa using hb⟩
  iexact HSI

set_option backward.isDefEq.respectTransparency.types false in
/-- The run: from any memory with zero counters every weakly fair execution on the four devices ends, with each device's
    result as computed, each argument as launched, and every counter at zero. -/
theorem run_main : θ_run defs (onTc (τ := τ) (main (F := F))) ⟨m, fun _ => 0, ρ⟩
    (fun r => (∀ c : Dev nD, ends m c r.2) ∧ r.2.sem = fun _ => 0) :=
  Pipeline.θ_run_regions_kit_dev_sems (pcfgs (F := F)) adm (dats m) () cellOf_inj EP defs₀ 𝒱₀ L lv m ρ main
    (segs m 𝒱₀ L lv (fun _ => E0 m) () (dats m) (region m))
    (fun c Q => by
      rewrite [main_chain c, Pipeline.Seg.run_eq_chain,
        show (segs m 𝒱₀ L lv (fun _ => E0 m) () (dats m) (region m) c).map Pipeline.Seg.prog = [
          StableHlo.seq (hostOps0 c), Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne (parked (F := F)) u₀
    (by
      unfold u₀
      iintro Hu
      ihave H := (ownU_pair _ _) $$ Hu
      icases H with ⟨HP, HX⟩
      imodintro
      isplitl [HP]; · iexact HP
      rw [parked_all]; iexact HX)
    (T₀ := T₀ m)
    (Tₙ := fun c => iprop(StableHlo.held (c : Thread nD τ) (Pipeline.ucRefs τ sig) (VE m c) ∗ semVal (barCell c) 0))
    (hch := fun c => ⟨.rfl, region_pre m c, region_post m c⟩)
    (hinit := start_all m ρ)
    (QY := fun c s => ends m c s ∧ s.sem (barCell c) = 0)
    (hfin := fun c s' => read_end m c s')
    (hQ := fun s h hs => ⟨fun c => (h c).1, sem_eq_zero hs fun c sm hsm => by
        obtain rfl := unscoped_bar sm hsm
        exact (h c).2⟩)

end Cert.Exchange
-- ==== Proof.Frames.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Launch
public import proofs.«01_k».proof.Proof.Gen.ReferenceIdeal.Run
public import Idealize.ShloMosaic.Lib.Quiescent

@[expose] public section

noncomputable section

namespace Cert.Proof

open Idealize.ShloMosaic Idealize.SL.Sem Idealize.ShloMosaic.TcCoe

/-- The shape relations the precondition takes at one device's blocks. -/
theorem pre_facts_blocks : Cert.Pre_finite_scores_KernelIdeal.Facts where
  bcast_S_S2x128x512 := by decide
  reducesTo_S2x128x512_S_d0_1_2 := by decide
  h_S_ := by decide
  bcast_S_S512x1024 := by decide
  reducesTo_S512x1024_S_d0_1 := by decide
  bcast_S_S2x128x4x64 := by decide
  reducesTo_S2x128x4x64_S_d0_1_2_3 := by decide

/-- The shape relations the precondition takes at the whole arrays. -/
theorem pre_facts_whole : Cert.Pre_finite_scores_ReferenceIdeal.Facts where
  bcast_S_S2x128x512 := by decide
  reducesTo_S2x128x512_S_d0_1_2 := by decide
  h_S_ := by decide
  bcast_S_S512x1024 := by decide
  reducesTo_S512x1024_S_d0_1 := by decide
  bcast_S_S2x128x16x64 := by decide
  reducesTo_S2x128x16x64_S_d0_1_2_3 := by decide

/-- The kernel over exact values runs, keeps its arguments and leaves every counter at zero. -/
theorem frame_ideal : Cert.quiescent_KernelIdeal := fun m g _ =>
  (θ_run Cert.KernelIdeal.defs _ _).mono (fun _ h => ⟨fun c => (h.1 c).2, h.2⟩)
    (Cert.Exchange.run_main (F := Ideal) m g)

/-- The two programs' tables of kernel bodies are one. -/
theorem bodies_same : Cert.Kernel.defs₀ (F := Bits) = Cert.KernelIdeal.defs₀ (F := Bits) := by
  unfold Cert.Kernel.defs₀ Cert.KernelIdeal.defs₀
  refine congrArg Defs.onTc ?_
  funext l
  match l with
  | ⟨0, _⟩ => rfl

/-- So their whole tables are. -/
theorem defs_same : Cert.Kernel.defs (F := Bits) = Cert.KernelIdeal.defs (F := Bits) :=
  congrArg (Pipeline.defs (Cert.KernelIdeal.pcfgs (F := Bits))) bodies_same

/-- The same run read over the machine's own floats is the first program's. -/
theorem frame_kernel : Cert.quiescent_Kernel := fun m g _ =>
  (congrArg (fun d => θ_run d (onTc (τ := Cert.KernelIdeal.τ) (Cert.KernelIdeal.main (F := Bits))) ⟨m, fun _ => 0, g⟩ _)
    defs_same).mpr
    ((θ_run Cert.KernelIdeal.defs _ _).mono (fun _ h => ⟨fun c => (h.1 c).2, h.2⟩)
      (Cert.Exchange.run_main (F := Bits) m g))

/-- The reference has no counter at all, so its run leaves none set. -/
theorem frame_reference : Cert.quiescent_ReferenceIdeal := fun m g _ =>
  (θ_run Cert.ReferenceIdeal.defs _ _).mono
    (fun r h => ⟨fun c => (h c).2, sem_eq_zero_of_no_sems rfl r.2⟩)
    (Cert.ReferenceIdeal.Value.run (F := Ideal) m g)

end Cert.Proof
-- ==== Proof.Pieces.lean ====
/- The kernel's vector computations over the reals, read at an index: the attention blocks, and the product with the
   output weights. -/
module

public import proofs.«01_k».proof.Proof.Slots
public import Idealize.ShloMosaic.Lib.Pointwise

@[expose] public section

set_option maxRecDepth 16384

noncomputable section

namespace Cert.Exchange

open Cert.KernelIdeal Cert.KernelIdeal.Gen
open Idealize.ShloMosaic Idealize.ShloMosaic.TcCoe

section Pieces
variable (q : FVec Ideal S256x256 .bf16) (kv : FVec Ideal S2x8x64x128 .bf16)

/-- A loaded block of queries at an index is the staged queries at the shifted index. -/
theorem ldQ_apply (r0 c0 : ℕ) (inb : ∀ a, (![r0, c0] : Fin 2 → ℕ) a + S128x64.size a ≤ S256x256.size a) (r : Fin 128) (d : Fin 64) :
    ldQ (F := Ideal) q ![r0, c0] inb (ix2 r d)
      = q (ix2 ⟨r0 + r.val, by have := inb 0; simp at this; omega⟩ ⟨c0 + d.val, by have := inb 1; simp at this; omega⟩) := by
  refine congrArg q ?_
  funext a
  match a with
  | 0 => apply Fin.ext; show r0 + 1 * r.val = r0 + r.val; omega
  | 1 => apply Fin.ext; show c0 + 1 * d.val = c0 + d.val; omega

/-- A loaded block of keys or values at an index is the staged array at the shifted index. -/
theorem ldK_apply (b h : ℕ) (inb : ∀ a, (![b, h, 0, 0] : Fin 4 → ℕ) a + S1x1x64x128.size a ≤ S2x8x64x128.size a) (d : Fin 64) (j : Fin 128) :
    ldK (F := Ideal) kv ![b, h, 0, 0] inb (ix4 0 0 d j)
      = kv (ix4 ⟨b, by have := inb 0; simp at this; omega⟩ ⟨h, by have := inb 1; simp at this; omega⟩ d j) := by
  refine congrArg kv ?_
  funext a
  match a with
  | 0 => apply Fin.ext; show b + 1 * 0 = b; omega
  | 1 => apply Fin.ext; show h + 1 * 0 = h; omega
  | 2 => apply Fin.ext; show 0 + 1 * d.val = d.val; omega
  | 3 => apply Fin.ext; show 0 + 1 * j.val = j.val; omega

/-- The score of query row `r` against key `j`, in batch `b` and head `h`. -/
def scoreK (b : Fin 2) (h : Fin 4) (r j : Fin 128) : EReal :=
  ∑ d : Fin 64, q (ix2 ⟨b.val * 128 + r.val, by omega⟩ ⟨h.val * 64 + d.val, by omega⟩) * kv (ix4 b ⟨h.val, by omega⟩ d j)

/-- The attention context: the weights exp(s) over their row's sum, times the values. -/
def ctxK (b : Fin 2) (h : Fin 4) (r : Fin 128) (k : Fin 64) : EReal :=
  ∑ j : Fin 128, Ideal.div (Ideal.exp (scoreK q kv b h r j)) (∑ i : Fin 128, Ideal.exp (scoreK q kv b h r i))
    * kv (ix4 b ⟨4 + h.val, by omega⟩ k j)

/-- The index of a head's block by its coordinates. -/
theorem hix_eq (r : Fin 128) (k : Fin 64) : hix r k = ix4 0 0 r k := by
  funext a
  match a with
  | 0 => rfl
  | 1 => rfl
  | 2 => rfl
  | 3 => rfl

/-! Rows of the stacked scores: head 2's rows start at 256 and head 3's at 384, each head having 128. -/

theorem row_not2 (r : Fin 128) : ¬ (256 + r.val < 128) := by omega
theorem row_not3 (r : Fin 128) : ¬ (256 + r.val - 128 < 128) := by omega

theorem row_eq2 (r : Fin 128) : 256 + r.val - 128 - 128 = r.val := by omega
theorem row_not4 (r : Fin 128) : ¬ (384 + r.val < 128) := by omega
theorem row_not5 (r : Fin 128) : ¬ (384 + r.val - 128 < 128) := by omega
theorem row_not6 (r : Fin 128) : ¬ (384 + r.val - 128 - 128 < 128) := by omega
theorem row_eq3 (r : Fin 128) : 384 + r.val - 128 - 128 - 128 = r.val := by omega

set_option maxHeartbeats 1600000 in
/-- Batch 0: each head's stored block is the attention context. -/
theorem pc0_apply (h : Fin 4) (r : Fin 128) (k : Fin 64) : pc0 (F := Ideal) q kv h (hix r k) = ctxK q kv 0 h r k := by
  rw [hix_eq]
  match h with
  | 0 => pointwise [pc0, k0_pay1, k0_pay2, k0_pay3, k0_pay4, k0_pay5, ctxK, scoreK, ldQ_apply, ldK_apply]
  | 1 => pointwise [pc0, k0_pay1, k0_pay2, k0_pay3, k0_pay4, k0_pay6, k0_pay7, ctxK, scoreK, ldQ_apply, ldK_apply]
  | 2 =>
    pointwise [pc0, k0_pay1, k0_pay2, k0_pay3, k0_pay4, k0_pay8, ctxK, scoreK, ldQ_apply, ldK_apply]
    simp only [row_not2 r, row_not3 r, row_eq2 r, r.isLt, dite_true, dite_false, ↓reduceDIte]
  | 3 =>
    pointwise [pc0, k0_pay1, k0_pay2, k0_pay3, k0_pay4, k0_pay9, ctxK, scoreK, ldQ_apply, ldK_apply]
    simp only [row_not4 r, row_not5 r, row_not6 r, row_eq3 r, dite_false, ↓reduceDIte]

/-- Batch 1: the same. -/
theorem pc1_apply (h : Fin 4) (r : Fin 128) (k : Fin 64) : pc1 (F := Ideal) q kv h (hix r k) = ctxK q kv 1 h r k := by
  rw [hix_eq]
  match h with
  | 0 => pointwise [pc1, sc1, k0_pay11, k0_pay12, k0_pay13, ctxK, scoreK, ldQ_apply, ldK_apply]
  | 1 => pointwise [pc1, sc1, k0_pay11, k0_pay12, k0_pay14, ctxK, scoreK, ldQ_apply, ldK_apply]
  | 2 =>
    pointwise [pc1, sc1, k0_pay11, k0_pay12, k0_pay15, ctxK, scoreK, ldQ_apply, ldK_apply]
    simp only [row_not2 r, row_not3 r, row_eq2 r, r.isLt, dite_true, dite_false, ↓reduceDIte]
  | 3 =>
    pointwise [pc1, sc1, k0_pay11, k0_pay12, k0_pay16, ctxK, scoreK, ldQ_apply, ldK_apply]
    simp only [row_not4 r, row_not5 r, row_not6 r, row_eq3 r, dite_false, ↓reduceDIte]

/-- Either batch. -/
theorem pc_apply (b : Fin 2) (h : Fin 4) (r : Fin 128) (k : Fin 64) : pc (F := Ideal) q kv b h (hix r k) = ctxK q kv b h r k := by
  match b with
  | 0 => exact pc0_apply q kv h r k
  | 1 => exact pc1_apply q kv h r k

end Pieces

section Product
variable (m : (ℓ : Loc nD τ sig) → Buf (Elt Ideal) ℓ)

/-- The exchange buffer's contents at an index: the context that device `o` computes for its own heads. -/
theorem G_apply (o : Fin 4) (b : Fin 2) (r : Fin 128) (c : Fin 256) :
    G (F := Ideal) m (ix4 o b r c)
      = ctxK (stQ m o) (stK m o) b ⟨c.val / 64, by omega⟩ r ⟨c.val % 64, by omega⟩ :=
  pc_apply (stQ m o) (stK m o) b ⟨c.val / 64, by omega⟩ r ⟨c.val % 64, by omega⟩

/-- The loaded chunk of device `o` at an index. -/
theorem chunk_apply (o : Fin 4) (b : Fin 2) (r : Fin 128) (c : Fin 256) :
    chunk (F := Ideal) m o (ix4 0 b r c) = G (F := Ideal) m (ix4 o b r c) := by
  refine congrArg (G (F := Ideal) m) ?_
  funext a
  match a with
  | 0 => apply Fin.ext; show o.val + 1 * 0 = o.val; omega
  | 1 => apply Fin.ext; show 0 + 1 * b.val = b.val; omega
  | 2 => apply Fin.ext; show 0 + 1 * r.val = r.val; omega
  | 3 => apply Fin.ext; show 0 + 1 * c.val = c.val; omega

/-- The result block: the four chunks' products with their 256 rows of the output weights, added up. -/
theorem res_apply (W : FVec Ideal S1024x512 .f32) (b : Fin 2) (r : Fin 128) (n : Fin 512) :
    res (F := Ideal) m W (ix3 b r n)
      = ∑ o : Fin 4, ∑ c : Fin 256, ctxK (stQ m o) (stK m o) b ⟨c.val / 64, by omega⟩ r ⟨c.val % 64, by omega⟩
          * W (ix2 ⟨o.val * 256 + c.val, by omega⟩ n) := by
  pointwise [res, k0_pay10, k0_pay17, k0_pay18, k0_pay19, chunk_apply, G_apply, Fin.sum_univ_four]

end Product
end Cert.Exchange
-- ==== Proof.Staged.lean ====
/- What the kernel's host operations hand each device, over the reals, read at an index. -/
module

public import proofs.«01_k».proof.Proof.Slots
public import Idealize.ShloMosaic.Lib.Pointwise
public import Idealize.ShloMosaic.Lib.DynamicIndex
public import Idealize.ShloMosaic.Lib.StableHlo.RunClose
public import Idealize.ShloMosaic.Lib.Tactic.CleanTypes

@[expose] public section

set_option maxRecDepth 16384

noncomputable section

namespace Cert.Exchange

open Cert.KernelIdeal Cert.KernelIdeal.Gen
open Idealize.ShloMosaic Idealize.ShloMosaic.TcCoe

variable (m : (ℓ : Loc nD τ sig) → Buf (Elt Ideal) ℓ)

/-- The columns of the query weights that device `c` starts at, as the host operations compute it. -/
def startW (c : Dev nD) : IVec S_ 32 :=
  select (cmpi .slt (muli (Host.remui (Host.divui (constantI S_ 32 (Dev.word c)) (constantI S_ 32 1#32)) (constantI S_ 32 4#32)) (constantI S_ 32 256#32)) (constantI S_ 32 0#32))
    (addi (muli (Host.remui (Host.divui (constantI S_ 32 (Dev.word c)) (constantI S_ 32 1#32)) (constantI S_ 32 4#32)) (constantI S_ 32 256#32)) (constantI S_ 32 1024#32))
    (muli (Host.remui (Host.divui (constantI S_ 32 (Dev.word c)) (constantI S_ 32 1#32)) (constantI S_ 32 4#32)) (constantI S_ 32 256#32))

/-- The scaled queries of a device's own heads. -/
def qOf (x : FVec Ideal S2x128x512 .f32) (wq : FVec Ideal S512x1024 .f32) (c : Dev nD) : FVec Ideal S256x256 .bf16 :=
  truncf .bf16 (mulf (Host.dotGeneral dot_S256x512_S512x256_S256x256_1_0_0_1_n_n none (shapeCast S256x512 x shapeCasts_S2x128x512_S256x512)
    (Host.dynamicSlice S512x256 wq (fun k : Fin 2 => ((![constantI S_ 32 0#32, startW c] : Fin 2 → IVec S_ 32) k (Shape.Idx.first h_S_)).toInt) sliceFits_S512x1024_S512x256))
    (broadcastInDim S256x256 ![] bcast_S_S256x256 (constant S_ .f32 0x3E000000#32))) bitsLt_bf16_f32

/-- The keys and the values of a device's own heads, transposed and stacked. -/
def kvOf (k v : FVec Ideal S2x128x4x64 .f32) : FVec Ideal S2x8x64x128 .bf16 :=
  concatenate S2x8x64x128 1 [⟨S2x4x64x128, truncf .bf16 (transpose S2x4x64x128 [0, 2, 3, 1] k transposes_S2x128x4x64_S2x4x64x128_0_2_3_1) bitsLt_bf16_f32⟩, ⟨S2x4x64x128, truncf .bf16 (transpose S2x4x64x128 [0, 2, 3, 1] v transposes_S2x128x4x64_S2x4x64x128_0_2_3_1) bitsLt_bf16_f32⟩] concatenates_S2x4x64x128_S2x4x64x128_S2x8x64x128_d1

set_option maxHeartbeats 4000000 in
/-- The staged queries, of the arguments. -/
theorem stQ_eq (c : Dev nD) : stQ m c = qOf (m ((c.tc : Thread nD τ).loc main_arg0)) (m ((c.tc : Thread nD τ).loc main_arg1)) c := by
  show StableHlo.after (hostOps0 c) (V0 m c) main_v14 = _
  simp only [hostOps0]
  after_results_simp_entrywise
  all_goals rfl

/-- The staged keys and values, of the arguments. -/
theorem stK_eq (c : Dev nD) : stK m c = kvOf (m ((c.tc : Thread nD τ).loc main_arg2)) (m ((c.tc : Thread nD τ).loc main_arg3)) := by
  show StableHlo.after (hostOps0 c) (V0 m c) main_v19 = _
  simp only [hostOps0]
  after_results_simp
  rfl

/-- The staged output weights are the argument. -/
theorem stW_eq (c : Dev nD) : stW m c = m ((c.tc : Thread nD τ).loc main_arg4) := V1_of m c main_arg4 (by decide)

/-- Device `c` starts at column `256 c`. -/
theorem startW_apply (c : Dev nD) : (startW c (Shape.Idx.first h_S_)).toInt = ((c.val * 256 : Nat) : Int) := by
  revert c
  decide

/-- The scale, as a number. -/
theorem eighth : Ideal.ofBits .f32 0x3E000000#32 = ((1 / 8 : ℝ) : EReal) := by
  simp [Ideal.ofBits, Ideal.ieee, -EReal.coe_mul]
  norm_num

/-- The queries at an index. -/
theorem qOf_apply (x : FVec Ideal S2x128x512 .f32) (wq : FVec Ideal S512x1024 .f32) (c : Dev nD) (r : Fin 256) (k : Fin 256) :
    qOf x wq c (ix2 r k)
      = (∑ e : Fin 512, x (ix3 ⟨r.val / 128, by omega⟩ ⟨r.val % 128, by omega⟩ e) * wq (ix2 e ⟨c.val * 256 + k.val, by have : c.val < 4 := c.isLt; omega⟩)) * ((1 / 8 : ℝ) : EReal) := by
  unfold qOf
  rw [Host.dynamicSlice_eq_extractStridedSlice S512x256 wq _ ![0, c.val * 256] sliceFits_S512x1024_S512x256
    (by have : c.val < 4 := c.isLt
        refine ⟨rfl, fun a => ?_⟩
        match a with
        | 0 => show 0 + 512 ≤ 512; omega
        | 1 => show c.val * 256 + 256 ≤ 1024; omega)
    (by intro a
        match a with
        | 0 => rfl
        | 1 => exact startW_apply c)]
  pointwise
  rw [eighth]

/-- A key at an index. -/
theorem kvOf_key (k v : FVec Ideal S2x128x4x64 .f32) (b : Fin 2) (h : Fin 4) (d : Fin 64) (j : Fin 128) :
    kvOf k v (ix4 b ⟨h.val, by omega⟩ d j) = k (ix4 b j h d) := by
  pointwise [kvOf]

/-- A value at an index. -/
theorem kvOf_value (k v : FVec Ideal S2x128x4x64 .f32) (b : Fin 2) (h : Fin 4) (d : Fin 64) (j : Fin 128) :
    kvOf k v (ix4 b ⟨4 + h.val, by omega⟩ d j) = v (ix4 b j h d) := by
  pointwise [kvOf]

end Cert.Exchange
-- ==== Proof.RefRead.lean ====
/- The reference's result over the reals, read at an index. -/
module

public import proofs.«01_k».proof.Proof.Gen.ReferenceIdeal.Run
public import Idealize.ShloMosaic.Lib.Pointwise
public import Idealize.ShloMosaic.Lib.Routing.OpsOrder
public import Idealize.ShloMosaic.Lib.Tactic.CleanTypes

@[expose] public section

set_option maxRecDepth 16384

noncomputable section

namespace Cert.Attention

open Cert.ReferenceIdeal Cert.ReferenceIdeal.Gen
open Idealize.ShloMosaic Idealize.ShloMosaic.TcCoe

/-! ## The reference's stages -/

/-- Which positions a query may attend to: nearer than the window, or among the first ones. -/
def maskR : IVec S128x128 1 :=
  ori (cmpi .sle (absi (subi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) (broadcastInDim S128x128 ![] bcast_S_S128x128 (constantI S_ 32 128#32))) (ori (broadcastInDim S128x128 ![0, 1] bcast_S1x128_S128x128_0_1 (cmpi .slt (broadcastInDim S1x128 ![1] bcast_S128_S1x128_1 (iotaInDim S128 32 0)) (broadcastInDim S1x128 ![] bcast_S_S1x128 (constantI S_ 32 32#32)))) (broadcastInDim S128x128 ![0, 1] bcast_S128x1_S128x128_0_1 (cmpi .slt (broadcastInDim S128x1 ![0] bcast_S128_S128x1_0 (iotaInDim S128 32 0)) (broadcastInDim S128x1 ![] bcast_S_S128x1 (constantI S_ 32 32#32)))))

/-- Which queries attend to anything. -/
def keepR : IVec S128 1 := Host.reduce IntOp.ori maskR (constantI S_ 1 0#1) reducesTo_S128x128_S128_d1 h_S_

/-- The scaled scores of the queries against the keys. -/
def rawR (x : FVec Ideal S2x128x512 .f32) (wq : FVec Ideal S512x1024 .f32) (kk : FVec Ideal S2x128x16x64 .f32) : FVec Ideal S2x16x128x128 .f32 :=
  mulf (Host.dotGeneral dot_S2x128x16x64_S2x128x16x64_S2x16x128x128_3_3_1_1_02_02 none (shapeCast S2x128x16x64 (Host.dotGeneral dot_S2x128x512_S512x1024_S2x128x1024_2_0_01_1_n_n none x wq) shapeCasts_S2x128x1024_S2x128x16x64) kk) (broadcastInDim S2x16x128x128 ![] bcast_S_S2x16x128x128 (constant S_ .f32 0x3E000000#32))

/-- The scores with the masked positions replaced. -/
def maskedR (s : FVec Ideal S2x16x128x128 .f32) : FVec Ideal S2x16x128x128 .f32 :=
  select (broadcastInDim S2x16x128x128 ![0, 1, 2, 3] bcast_S1x1x128x128_S2x16x128x128_0_1_2_3 (broadcastInDim S1x1x128x128 ![2, 3] bcast_S128x128_S1x1x128x128_2_3 maskR)) s (broadcastInDim S2x16x128x128 ![] bcast_S_S2x16x128x128 (id (constant S_ .f32 0xCE6E6B28#32)))

/-- The exponentials of the scores less their row's maximum. -/
def expR (s : FVec Ideal S2x16x128x128 .f32) : FVec Ideal S2x16x128x128 .f32 :=
  Host.exp (subf s (broadcastInDim S2x16x128x128 ![0, 1, 2, 3] bcast_S2x16x128x1_S2x16x128x128_0_1_2_3 (broadcastInDim S2x16x128x1 ![0, 1, 2] bcast_S2x16x128_S2x16x128x1_0_1_2 (Host.reduce FloatOps.maximumf s (constant S_ .f32 0xFF800000#32) reducesTo_S2x16x128x128_S2x16x128_d3 h_S_))))

/-- The weights: each exponential over its row's sum. -/
def probR (ex : FVec Ideal S2x16x128x128 .f32) : FVec Ideal S2x16x128x128 .f32 :=
  select (broadcastInDim S2x16x128x128 ![0, 1, 2, 3] bcast_S1x1x128x1_S2x16x128x128_0_1_2_3 (broadcastInDim S1x1x128x1 ![2] bcast_S128_S1x1x128x1_2 keepR)) (Host.divf ex (broadcastInDim S2x16x128x128 ![0, 1, 2, 3] bcast_S2x16x128x1_S2x16x128x128_0_1_2_3 (select (broadcastInDim S2x16x128x1 ![0, 1, 2, 3] bcast_S1x1x128x1_S2x16x128x1_0_1_2_3 (broadcastInDim S1x1x128x1 ![2] bcast_S128_S1x1x128x1_2 keepR)) (broadcastInDim S2x16x128x1 ![0, 1, 2] bcast_S2x16x128_S2x16x128x1_0_1_2 (Host.reduceAdd ex (constant S_ .f32 0x00000000#32) reducesTo_S2x16x128x128_S2x16x128_d3 h_S_)) (broadcastInDim S2x16x128x1 ![] bcast_S_S2x16x128x1 (id (constant S_ .f32 0x3F800000#32)))))) (broadcastInDim S2x16x128x128 ![] bcast_S_S2x16x128x128 (id (constant S_ .f32 0x00000000#32)))

/-- The weighted values, heads joined, times the output weights. -/
def outR (v : FVec Ideal S2x128x16x64 .f32) (pr : FVec Ideal S2x16x128x128 .f32) (w : FVec Ideal S1024x512 .f32) : FVec Ideal S2x128x512 .bf16 :=
  truncf .bf16 (Host.dotGeneral dot_S2x128x1024_S1024x512_S2x128x512_2_0_01_1_n_n none (shapeCast S2x128x1024 (transpose S2x128x16x64 [0, 3, 1, 2] (Host.dotGeneral dot_S2x128x16x64_S2x16x128x128_S2x16x64x128_1_3_3_2_02_01 none v pr) transposes_S2x16x64x128_S2x128x16x64_0_3_1_2) shapeCasts_S2x128x16x64_S2x128x1024) w) bitsLt_bf16_f32

/-- The reference's result is its stages composed. -/
theorem ref_stages (m : (ℓ : Loc nD τ sig) → Buf (Elt Ideal) ℓ) (c : Dev nD) :
    Value.res_main_v43 (F := Ideal) m c
      = outR (m ((c.tc : Thread nD τ).loc main_arg3)) (probR (expR (maskedR (rawR (m ((c.tc : Thread nD τ).loc main_arg0)) (m ((c.tc : Thread nD τ).loc main_arg1)) (m ((c.tc : Thread nD τ).loc main_arg2))))))
          (m ((c.tc : Thread nD τ).loc main_arg4)) := by
  unfold Value.res_main_v43 outR probR expR maskedR rawR keepR maskR
  rfl

/-! ## Each stage at an index -/

/-- No position is masked: positions differ by at most 127. -/
theorem maskR_apply (r j : Fin 128) : maskR (ix2 r j) = 1#1 := by
  pointwise [maskR]
  revert r j
  decide

/-- Every query attends to something. -/
theorem keepR_apply (r : Fin 128) : keepR (ix1 r) = 1#1 := by
  pointwise [keepR]
  exact (Routing.fold_ori Finset.univ _).2 ⟨r, Finset.mem_univ r, maskR_apply r r⟩

/-- The scores at an index. -/
theorem rawR_apply (x : FVec Ideal S2x128x512 .f32) (wq : FVec Ideal S512x1024 .f32) (kk : FVec Ideal S2x128x16x64 .f32) (b : Fin 2) (h : Fin 16) (r j : Fin 128) :
    rawR x wq kk (ix4 b h r j)
      = (∑ d : Fin 64, (∑ e : Fin 512, x (ix3 b r e) * wq (ix2 e ⟨h.val * 64 + d.val, by omega⟩)) * kk (ix4 b j h d)) * ((1 / 8 : ℝ) : EReal) := by
  pointwise [rawR]
  rw [show Ideal.ofBits .f32 0x3E000000#32 = ((1 / 8 : ℝ) : EReal) by
    simp [Ideal.ofBits, Ideal.ieee, -EReal.coe_mul]
    norm_num]

/-- Masking changes nothing. -/
theorem maskedR_apply (s : FVec Ideal S2x16x128x128 .f32) (b : Fin 2) (h : Fin 16) (r j : Fin 128) : maskedR s (ix4 b h r j) = s (ix4 b h r j) := by
  pointwise [maskedR, maskR_apply]

/-- The exponentials at an index. -/
theorem expR_apply (s : FVec Ideal S2x16x128x128 .f32) (b : Fin 2) (h : Fin 16) (r j : Fin 128) :
    expR s (ix4 b h r j) = Ideal.exp (s (ix4 b h r j) - Finset.univ.fold max (⊥ : EReal) fun i : Fin 128 => s (ix4 b h r i)) := by
  pointwise [expR]
  rw [show Ideal.ofBits .f32 0xFF800000#32 = (⊥ : EReal) by simp [Ideal.ofBits, Ideal.ieee]]

/-- The weights at an index. -/
theorem probR_apply (ex : FVec Ideal S2x16x128x128 .f32) (b : Fin 2) (h : Fin 16) (r j : Fin 128) :
    probR ex (ix4 b h r j) = Ideal.div (ex (ix4 b h r j)) (∑ i : Fin 128, ex (ix4 b h r i)) := by
  pointwise [probR, keepR_apply]

/-- The result at an index. -/
theorem outR_apply (v : FVec Ideal S2x128x16x64 .f32) (pr : FVec Ideal S2x16x128x128 .f32) (w : FVec Ideal S1024x512 .f32) (b : Fin 2) (r : Fin 128) (n : Fin 512) :
    outR v pr w (ix3 b r n)
      = ∑ k : Fin 1024, (∑ j : Fin 128, v (ix4 b j ⟨k.val / 64, by omega⟩ ⟨k.val % 64, by omega⟩) * pr (ix4 b ⟨k.val / 64, by omega⟩ r j)) * w (ix2 k n) := by
  pointwise [outR]

end Cert.Attention
-- ==== Proof.Softmax.lean ====
/- The arithmetic over the extended reals: the softmax of real scores does not depend on the shift. -/
module

public import Idealize.ShloMosaic.PureOps.Ideal

@[expose] public section

noncomputable section

namespace Cert.Attention

open Idealize.ShloMosaic

/-- A number of the extended reals that is a real. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals, read in the extended reals. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type} (s : Finset ι) {f : ι → EReal} (h : ∀ i, IsReal (f i)) : IsReal (∑ i ∈ s, f i) := by
  choose g hg using h
  exact ⟨∑ i ∈ s, g i, by rw [← sum_coe]; exact Finset.sum_congr rfl fun i _ => hg i⟩

/-- A real factor leaves a finite sum of reals. -/
theorem sum_mul_real {ι : Type} (s : Finset ι) {f : ι → EReal} (h : ∀ i, IsReal (f i)) (a : ℝ) :
    (∑ i ∈ s, f i) * (a : EReal) = ∑ i ∈ s, f i * (a : EReal) := by
  choose g hg using h
  simp only [hg, ← EReal.coe_mul]
  rw [sum_coe, sum_coe, ← EReal.coe_mul, Finset.sum_mul]

/-- The maximum of finitely many reals, from below everything: a real, unless there are none. -/
theorem fold_max_real {ι : Type} (s : Finset ι) (f : ι → ℝ) (hs : s.Nonempty) : IsReal (s.fold max (⊥ : EReal) fun i => (f i : EReal)) := by
  classical
  induction hs using Finset.Nonempty.cons_induction with
  | singleton a => exact ⟨f a, by simp⟩
  | cons a s ha hs ih =>
    obtain ⟨M, hM⟩ := ih
    rw [Finset.fold_cons, hM]
    exact ⟨max (f a) M, (EReal.coe_strictMono.monotone.map_max).symm⟩

/-- Of real scores, the exponentials over their sum are the same after any shift of the scores. -/
theorem softmax_shift {n : Nat} (f : Fin n → ℝ) (M : ℝ) (j : Fin n) :
    Ideal.div (Ideal.exp ((f j : EReal) - (M : EReal))) (∑ i, Ideal.exp ((f i : EReal) - (M : EReal)))
      = Ideal.div (Ideal.exp (f j : EReal)) (∑ i, Ideal.exp (f i : EReal)) := by
  have pos : ∀ g : Fin n → ℝ, (∑ i, Real.exp (g i)) ≠ 0 := fun g =>
    (Finset.sum_pos (fun i _ => Real.exp_pos (g i)) ⟨j, Finset.mem_univ j⟩).ne'
  simp only [← EReal.coe_sub, Ideal.exp_coe, sum_coe]
  rw [Ideal.div_coe (pos _), Ideal.div_coe (pos _), ← EReal.coe_mul, ← EReal.coe_mul]
  congr 1
  simp only [Real.exp_sub]
  rw [← Finset.sum_div]
  have h := pos f
  have hM := (Real.exp_pos M).ne'
  field_simp

/-- The same with the row's maximum as the shift, and the scores any extended reals that are real. -/
theorem softmax_max {n : Nat} (g : Fin n → EReal) (hg : ∀ i, IsReal (g i)) (j : Fin n) :
    Ideal.div (Ideal.exp (g j - Finset.univ.fold max (⊥ : EReal) g)) (∑ i, Ideal.exp (g i - Finset.univ.fold max (⊥ : EReal) g))
      = Ideal.div (Ideal.exp (g j)) (∑ i, Ideal.exp (g i)) := by
  choose f hf using hg
  obtain rfl : g = fun i => (f i : EReal) := funext hf
  obtain ⟨M, hM⟩ := fold_max_real Finset.univ f ⟨j, Finset.mem_univ j⟩
  rw [hM]
  exact softmax_shift f M j

/-- The absolute value below every bound is what a real has. -/
theorem isReal_of_abs_lt_top {x : EReal} (h : max x (-x) < ⊤) : IsReal x := by
  induction x using EReal.rec with
  | bot => exact absurd h (by simp)
  | top => exact absurd h (by simp)
  | coe r => exact ⟨r, rfl⟩

end Cert.Attention
-- ==== Proof.Equal.lean ====
/- The kernel's result is the reference's, wherever the scores' arguments are real. -/
module

public import proofs.«01_k».proof.Proof.Pieces
public import proofs.«01_k».proof.Proof.Staged
public import proofs.«01_k».proof.Proof.RefRead
public import proofs.«01_k».proof.Proof.Softmax
public import Idealize.ShloMosaic.Lib.Layout
public import Idealize.ShloMosaic.Lib.Pipeline.ValueKit.Acc

@[expose] public section

set_option maxRecDepth 16384

noncomputable section

namespace Cert.Attention

open Cert.Exchange
open Idealize.ShloMosaic Idealize.ShloMosaic.TcCoe

/-- Device `c`'s heads among all of them. -/
theorem block_heads (c : Fin 4) (v : FVec Ideal Cert.ReferenceIdeal.S2x128x16x64 .f32) (b : Fin 2) (j : Fin 128) (h : Fin 4) (d : Fin 64) :
    Layout.block ⟨4, ![2, 128, 4, 64]⟩ ⟨4, ![2, 128, 16, 64]⟩ 2 4 c v (by decide) (ix4 b j h d) = v (ix4 b j ⟨c.val * 4 + h.val, by omega⟩ d) := by
  refine congrArg v ?_
  funext a
  match a with
  | 0 => rfl
  | 1 => rfl
  | 2 => rfl
  | 3 => rfl

/-- A sum over 1024 is the sum over the four devices' 256 each. -/
theorem sum_four (f : Fin 1024 → EReal) : (∑ k : Fin 1024, f k) = ∑ o : Fin 4, ∑ c : Fin 256, f ⟨o.val * 256 + c.val, by omega⟩ :=
  (Fin.sum_mul_add_fin 4 256 f).symm

section Scores
variable (x : FVec Ideal Cert.ReferenceIdeal.S2x128x512 .f32) (wq : FVec Ideal Cert.ReferenceIdeal.S512x1024 .f32)
  (kk vv : FVec Ideal Cert.ReferenceIdeal.S2x128x16x64 .f32) (k v : FVec Ideal Cert.KernelIdeal.S2x128x4x64 .f32) (o : Fin 4)
  (hx : ∀ i, IsReal (x i)) (hwq : ∀ i, IsReal (wq i)) (hk : ∀ i, IsReal (k i))
  (ek : ∀ b j h d, k (ix4 b j h d) = kk (ix4 b j ⟨o.val * 4 + h.val, by omega⟩ d))
  (ev : ∀ b j h d, v (ix4 b j h d) = vv (ix4 b j ⟨o.val * 4 + h.val, by omega⟩ d))
include hx hwq hk ek

/-- The reference's scores of a device's own heads are real. -/
theorem raw_real (b : Fin 2) (h : Fin 4) (r j : Fin 128) : IsReal (rawR x wq kk (ix4 b ⟨o.val * 4 + h.val, by omega⟩ r j)) := by
  rw [rawR_apply]
  refine IsReal.mul (IsReal.sum _ fun d => IsReal.mul (IsReal.sum _ fun e => (hx _).mul (hwq _)) ?_) ⟨_, rfl⟩
  rw [← ek]
  exact hk _

/-- The kernel's scores, scaled before the product with the keys, are the reference's, scaled after it. -/
theorem score_eq (b : Fin 2) (h : Fin 4) (r j : Fin 128) :
    scoreK (qOf x wq o) (kvOf k v) b h r j = rawR x wq kk (ix4 b ⟨o.val * 4 + h.val, by omega⟩ r j) := by
  rw [rawR_apply, sum_mul_real _ (fun d => IsReal.mul (IsReal.sum _ fun e => (hx _).mul (hwq _)) (by rw [← ek]; exact hk _))]
  unfold scoreK
  refine Finset.sum_congr rfl fun d _ => ?_
  rw [qOf_apply, kvOf_key, ek]
  have e1 : (⟨(b.val * 128 + r.val) / 128, by omega⟩ : Fin 2) = b := Fin.ext (by show (b.val * 128 + r.val) / 128 = b.val; omega)
  have e2 : (⟨(b.val * 128 + r.val) % 128, by omega⟩ : Fin 128) = r := Fin.ext (by show (b.val * 128 + r.val) % 128 = r.val; omega)
  have e3 : (⟨o.val * 256 + (h.val * 64 + d.val), by omega⟩ : Fin 1024) = ⟨(o.val * 4 + h.val) * 64 + d.val, by omega⟩ :=
    Fin.ext (by show o.val * 256 + (h.val * 64 + d.val) = (o.val * 4 + h.val) * 64 + d.val; omega)
  simp only [e1, e2, e3]
  rw [mul_right_comm]

include ev

/-- A device's contexts are the reference's for its own heads. -/
theorem ctx_eq (b : Fin 2) (h : Fin 4) (r : Fin 128) (c : Fin 64) :
    ctxK (qOf x wq o) (kvOf k v) b h r c
      = ∑ j : Fin 128, vv (ix4 b j ⟨o.val * 4 + h.val, by omega⟩ c) * probR (expR (maskedR (rawR x wq kk))) (ix4 b ⟨o.val * 4 + h.val, by omega⟩ r j) := by
  unfold ctxK
  refine Finset.sum_congr rfl fun j _ => ?_
  rw [kvOf_value, ev]
  refine (mul_comm _ _).trans (congrArg (fun t => vv (ix4 b j ⟨o.val * 4 + h.val, by omega⟩ c) * t) ?_)
  rw [probR_apply]
  simp only [expR_apply, maskedR_apply]
  rw [← softmax_max (fun i => scoreK (qOf x wq o) (kvOf k v) b h r i)
    (fun i => by rw [score_eq x wq kk k v o hx hwq hk ek]; exact raw_real x wq kk k o hx hwq hk ek b h r i) j]
  simp only [score_eq x wq kk k v o hx hwq hk ek]

end Scores

section Result
variable (m : (ℓ : Loc Cert.KernelIdeal.nD Cert.KernelIdeal.τ Cert.KernelIdeal.sig) → Buf (Elt Ideal) ℓ)
    (x : FVec Ideal Cert.ReferenceIdeal.S2x128x512 .f32) (wq : FVec Ideal Cert.ReferenceIdeal.S512x1024 .f32)
    (kk vv : FVec Ideal Cert.ReferenceIdeal.S2x128x16x64 .f32) (w : FVec Ideal Cert.ReferenceIdeal.S1024x512 .f32)
    (ex : ∀ c : Dev Cert.KernelIdeal.nD, m ((c.tc : Thread Cert.KernelIdeal.nD Cert.KernelIdeal.τ).loc Cert.KernelIdeal.main_arg0) = x)
    (ewq : ∀ c : Dev Cert.KernelIdeal.nD, m ((c.tc : Thread Cert.KernelIdeal.nD Cert.KernelIdeal.τ).loc Cert.KernelIdeal.main_arg1) = wq)
    (ek : ∀ c : Dev Cert.KernelIdeal.nD, m ((c.tc : Thread Cert.KernelIdeal.nD Cert.KernelIdeal.τ).loc Cert.KernelIdeal.main_arg2) = Layout.block ⟨4, ![2, 128, 4, 64]⟩ ⟨4, ![2, 128, 16, 64]⟩ 2 4 c kk)
    (ev : ∀ c : Dev Cert.KernelIdeal.nD, m ((c.tc : Thread Cert.KernelIdeal.nD Cert.KernelIdeal.τ).loc Cert.KernelIdeal.main_arg3) = Layout.block ⟨4, ![2, 128, 4, 64]⟩ ⟨4, ![2, 128, 16, 64]⟩ 2 4 c vv)
    (hx : ∀ i, IsReal (x i)) (hwq : ∀ i, IsReal (wq i))
    (hk : ∀ (c : Fin 4) i, IsReal (Layout.block ⟨4, ![2, 128, 4, 64]⟩ ⟨4, ![2, 128, 16, 64]⟩ 2 4 c kk (by decide) i))
include ex ewq ek ev hx hwq hk

/-- The kernel's result block is the reference's result, entry by entry. -/
theorem result_at (b : Fin 2) (r : Fin 128) (n : Fin 512) :
    res (F := Ideal) m w (ix3 b r n) = outR vv (probR (expR (maskedR (rawR x wq kk)))) w (ix3 b r n) := by
  rw [res_apply, outR_apply, sum_four]
  refine Finset.sum_congr rfl fun o _ => Finset.sum_congr rfl fun c _ => ?_
  rw [stQ_eq, stK_eq, ex, ewq, ek, ev,
    ctx_eq x wq kk vv _ _ o hx hwq (hk o) (fun b j h d => block_heads o kk b j h d) (fun b j h d => block_heads o vv b j h d)]
  have e1 : (⟨(o.val * 256 + c.val) / 64, by omega⟩ : Fin 16) = ⟨o.val * 4 + c.val / 64, by omega⟩ :=
    Fin.ext (by show (o.val * 256 + c.val) / 64 = o.val * 4 + c.val / 64; omega)
  have e2 : (⟨(o.val * 256 + c.val) % 64, by omega⟩ : Fin 64) = ⟨c.val % 64, by omega⟩ :=
    Fin.ext (by show (o.val * 256 + c.val) % 64 = c.val % 64; omega)
  simp only [e1, e2]

/-- So the two are one array. -/
theorem result_eq : res (F := Ideal) m w = outR vv (probR (expR (maskedR (rawR x wq kk)))) w :=
  funext fun i => (congrArg (res (F := Ideal) m w) (ValueIdx.eq_ix3 i)).trans
    ((result_at m x wq kk vv w ex ewq ek ev hx hwq hk (i 0) (i 1) (i 2)).trans
      (congrArg (outR vv (probR (expR (maskedR (rawR x wq kk)))) w) (ValueIdx.eq_ix3 i).symm))

end Result

end Cert.Attention
-- ==== Proof.Algebra.lean ====
/- The value claim: what the precondition says, and the two runs set side by side. -/
module

public import proofs.«01_k».proof.Proof.Frames
public import proofs.«01_k».proof.Proof.Equal
public import Idealize.ShloMosaic.Lib.ReduceAll
public import Idealize.ShloMosaic.Lib.Affine

@[expose] public section

noncomputable section

namespace Cert.Proof

open Cert.Attention
open Idealize.ShloMosaic Idealize.SL.Sem Idealize.ShloMosaic.TcCoe

/-- One `abs(x) < inf` that is true says that `x` is a real. -/
theorem real_of_lt (s : Shape) (x : FVec Ideal s .f32) (hb : Cert.KernelIdeal.S_.BroadcastsInDim s ![]) (i : s.Idx)
    (h : cmpf .olt (Host.absf x) (broadcastInDim s ![] hb (constant (F := Ideal) Cert.KernelIdeal.S_ .f32 0x7F800000#32)) i = 1#1) : IsReal (x i) := by
  have ht : Ideal.ofBits .f32 0x7F800000#32 = (⊤ : EReal) := by simp [Ideal.ofBits, Ideal.ieee]
  change BitVec.ofBool (decide (max (x i) (-(x i)) < Ideal.ofBits .f32 0x7F800000#32)) = 1#1 at h
  rw [ht] at h
  refine isReal_of_abs_lt_top ?_
  by_contra hn
  rw [decide_eq_false hn] at h
  exact absurd h (by decide)

/-- There is one index of no axes. -/
instance one_index : Subsingleton Cert.Pre_finite_scores_KernelIdeal.S_.Idx := ⟨fun a b => funext fun k => k.elim0⟩

/-- The precondition at one device: the activations, the query weights and the device's keys are reals. -/
theorem pre_reads [Cert.Pre_finite_scores_KernelIdeal.Facts] (x : FVec Ideal Cert.KernelIdeal.S2x128x512 .f32) (wq : FVec Ideal Cert.KernelIdeal.S512x1024 .f32)
    (k v : FVec Ideal Cert.KernelIdeal.S2x128x4x64 .f32) (w : FVec Ideal Cert.KernelIdeal.S1024x512 .f32)
    (h : Cert.Pre_finite_scores_KernelIdeal.fn (F := Ideal) x wq k v w = fun _ => 1#1) :
    (∀ i, IsReal (x i)) ∧ (∀ i, IsReal (wq i)) ∧ (∀ i, IsReal (k i)) := by
  have h0 := congrFun h (fun a => a.elim0)
  dsimp only [Cert.Pre_finite_scores_KernelIdeal.fn] at h0
  obtain ⟨h01, h2⟩ := IntOp.andi_eq_one.1 h0
  obtain ⟨h0, h1⟩ := IntOp.andi_eq_one.1 h01
  exact ⟨fun i => real_of_lt _ x _ i (Host.reduce_andi_all _ _ _ _ _ h0 i),
    fun i => real_of_lt _ wq _ i (Host.reduce_andi_all _ _ _ _ _ h1 i),
    fun i => real_of_lt _ k _ i (Host.reduce_andi_all _ _ _ _ _ h2 i)⟩

/-- From arguments that agree, with real scores, every device of the kernel ends holding the reference's result. -/
theorem algebraic [Cert.Pre_finite_scores_KernelIdeal.Facts] : Cert.algebraic_KernelIdeal_ReferenceIdeal_pre_finite_scores_KernelIdeal := by
  intro m g m' g' hpre hargs
  refine ⟨Cert.ReferenceIdeal.Value.res_main_v43 m' 0, ?_, ?_⟩
  · refine (θ_run Cert.KernelIdeal.defs _ _).mono (fun r h c => ⟨(h.1 c).1.trans ?_, (h.1 c).2⟩) (Cert.Exchange.run_main (F := Ideal) m g)
    rw [Cert.Exchange.stW_eq, (hargs c).2.2.2.2, ref_stages]
    have real := fun c => pre_reads _ _ _ _ _ (hpre c)
    refine result_eq m _ _ _ _ _ (fun c => (hargs c).1) (fun c => (hargs c).2.1) (fun c => (hargs c).2.2.1) (fun c => (hargs c).2.2.2.1)
      (fun i => ?_) (fun i => ?_) (fun c i => ?_)
    · rw [← (hargs 0).1]; exact (real 0).1 i
    · rw [← (hargs 0).2.1]; exact (real 0).2.1 i
    · have e := (hargs c).2.2.1
      exact (congrFun e i) ▸ (real c).2.2 i
  · exact (θ_run Cert.ReferenceIdeal.defs _ _).mono (fun r h => h 0) (Cert.ReferenceIdeal.Value.run (F := Ideal) m' g')

end Cert.Proof
-- ==== Proof.lean ====
module

public import proofs.«01_k».proof.Defs
public import proofs.«01_k».proof.Proof.Frames
public import proofs.«01_k».proof.Proof.Algebra

@[expose] public section

noncomputable section

namespace Cert.Proof

open Idealize.ShloMosaic Idealize.SL.Sem

/-- The certificate's claim: the frames, the ideal reading, and the value of the result. -/
theorem claim : Cert.Claim :=
  ⟨Cert.Kernel.Gen.facts, Cert.KernelIdeal.Gen.facts, Cert.ReferenceIdeal.Gen.facts, pre_facts_blocks, pre_facts_whole,
    frame_kernel, frame_ideal, fun m g _ => frame_ideal m g trivial,
    frame_reference, fun m g _ => frame_reference m g trivial, trivial, @algebraic pre_facts_blocks⟩

end Cert.Proof

end
